-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x384 : Shape := ⟨3, ![6, 256, 384]⟩
abbrev S16384x384 : Shape := ⟨2, ![16384, 384]⟩
abbrev S1536x384 : Shape := ⟨2, ![1536, 384]⟩
abbrev S6x256 : Shape := ⟨2, ![6, 256]⟩
abbrev S2048x384 : Shape := ⟨2, ![2048, 384]⟩
abbrev S2048x128 : Shape := ⟨2, ![2048, 128]⟩
abbrev S8x1536 : Shape := ⟨2, ![8, 1536]⟩
abbrev S512x384 : Shape := ⟨2, ![512, 384]⟩
abbrev S16x384 : Shape := ⟨2, ![16, 384]⟩
abbrev S16x512 : Shape := ⟨2, ![16, 512]⟩
abbrev S8x512 : Shape := ⟨2, ![8, 512]⟩
abbrev S8x128 : Shape := ⟨2, ![8, 128]⟩
abbrev S128x128 : Shape := ⟨2, ![128, 128]⟩
abbrev S256x384 : Shape := ⟨2, ![256, 384]⟩
abbrev S512x256 : Shape := ⟨2, ![512, 256]⟩
abbrev S8x256 : Shape := ⟨2, ![8, 256]⟩
abbrev S16x256 : Shape := ⟨2, ![16, 256]⟩
abbrev S1x256 : Shape := ⟨2, ![1, 256]⟩

abbrev nBuf : Space → Nat
  | .hbm => 5
  | .vmem => 8
  | .smem => 0
  | _ => 0

abbrev bufTy : (tb : Table) → Fin (tcTables nBuf tb) → BufTy
  | .hbm, ⟨0, _⟩ => ⟨S6x256x384, .fp8e4m3⟩
  | .hbm, ⟨1, _⟩ => ⟨S16384x384, .fp8e4m3⟩
  | .hbm, ⟨2, _⟩ => ⟨S1536x384, .fp8e4m3⟩
  | .hbm, ⟨3, _⟩ => ⟨S6x256, .f32⟩
  | .hbm, ⟨4, _⟩ => ⟨S6x256, .f32⟩
  | .local _ .vmem, ⟨0, _⟩ => ⟨S1536x384, .fp8e4m3⟩
  | .local _ .vmem, ⟨1, _⟩ => ⟨S2048x384, .fp8e4m3⟩
  | .local _ .vmem, ⟨2, _⟩ => ⟨S2048x384, .fp8e4m3⟩
  | .local _ .vmem, ⟨3, _⟩ => ⟨S6x256, .f32⟩
  | .local _ .vmem, ⟨4, _⟩ => ⟨S6x256, .f32⟩
  | .local _ .vmem, ⟨5, _⟩ => ⟨S2048x128, .f32⟩
  | .local _ .vmem, ⟨6, _⟩ => ⟨S8x1536, .f32⟩
  | .local _ .vmem, ⟨7, _⟩ => ⟨S8x1536, .f32⟩
  | _, _ => ⟨S6x256x384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v18751 : BitVec 1 := Scalar.cmpi .eq arg0 c7_i32
  let v18752 : BitVec 32 := Scalar.extui v18751
  let c0_i32_3080 : BitVec 32 := 0#32
  let v18753 : BitVec 1 := Scalar.cmpi .ne v18752 c0_i32_3080
  v18753

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S6x256x384 : Shape := ⟨3, ![6, 256, 384]⟩
abbrev S16384x384 : Shape := ⟨2, ![16384, 384]⟩
abbrev S1536x384 : Shape := ⟨2, ![1536, 384]⟩
abbrev S6x256 : Shape := ⟨2, ![6, 256]⟩
abbrev S1536 : Shape := ⟨1, ![1536]⟩
abbrev S16384 : Shape := ⟨1, ![16384]⟩
abbrev S1536x16384 : Shape := ⟨2, ![1536, 16384]⟩
abbrev S1536x1 : Shape := ⟨2, ![1536, 1]⟩
abbrev S1x16384 : Shape := ⟨2, ![1, 16384]⟩

abbrev nBuf : Space → Nat
  | .hbm => 5
  | .vmem => 4
  | .smem => 0
  | _ => 0

abbrev bufTy : (tb : Table) → Fin (tcTables nBuf tb) → BufTy
  | .hbm, ⟨0, _⟩ => ⟨S6x256x384, .fp8e4m3⟩
  | .hbm, ⟨1, _⟩ => ⟨S16384x384, .fp8e4m3⟩
  | .hbm, ⟨2, _⟩ => ⟨S1536x384, .fp8e4m3⟩
  | .hbm, ⟨3, _⟩ => ⟨S6x256, .f32⟩
  | .hbm, ⟨4, _⟩ => ⟨S6x256, .f32⟩
  | .local _ .vmem, ⟨0, _⟩ => ⟨S1536x384, .fp8e4m3⟩
  | .local _ .vmem, ⟨1, _⟩ => ⟨S16384x384, .fp8e4m3⟩
  | .local _ .vmem, ⟨2, _⟩ => ⟨S6x256, .f32⟩
  | .local _ .vmem, ⟨3, _⟩ => ⟨S6x256, .f32⟩
  | _, _ => ⟨S6x256x384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1536x384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Step.lean ====
/- What the body does at one grid point, as loops.

   A point holds 2048 codes in four groups of 512. Chunk `n` (of 256) is the eight codes `8n … 8n+7`; its scaled
   dots against 128 tokens are an 8×128 array, one code per row. The tokens come in twelve tiles of 128. For each
   tile the body folds the 256 chunks into a running maximum and a running second maximum, row by row. -/
module

public import proofs.«01_k».proof.Proof.Gen.KernelIdeal.Frame.Runs
public import Idealize.ShloMosaic.Lib.WritesUnit

@[expose] public section

noncomputable section

namespace Cert.Step

open Idealize.ShloMosaic Cert.KernelIdeal Cert.KernelIdeal.Gen

variable {F : FTy → Type} [FloatOps F]

theorem inbW (j : Fin 4) : ∀ a, (![512 * j.val, 0] : Fin 2 → ℕ) a + S512x384.size a ≤ S2048x384.size a :=
  Fin.forall_fin_two.mpr ⟨(show 512 * j.val + 512 ≤ 2048 by omega), le_refl 384⟩

theorem inbX (t : Fin 6) : ∀ a, (![256 * t.val, 0] : Fin 2 → ℕ) a + S256x384.size a ≤ S1536x384.size a :=
  Fin.forall_fin_two.mpr ⟨(show 256 * t.val + 256 ≤ 1536 by omega), le_refl 384⟩

theorem inbFill (i : Fin 16) : ∀ a, (![128 * i.val, 0] : Fin 2 → ℕ) a + S128x128.size a ≤ S2048x128.size a :=
  Fin.forall_fin_two.mpr ⟨(show 128 * i.val + 128 ≤ 2048 by omega), le_refl 128⟩

theorem inbChunk (n : Fin 256) : ∀ a, (![8 * n.val, 0] : Fin 2 → ℕ) a + S8x128.size a ≤ S2048x128.size a :=
  Fin.forall_fin_two.mpr ⟨(show 8 * n.val + 8 ≤ 2048 by omega), le_refl 128⟩

theorem inbTile (i : Fin 12) : ∀ a, (![0, 128 * i.val] : Fin 2 → ℕ) a + S8x128.size a ≤ S8x1536.size a :=
  Fin.forall_fin_two.mpr ⟨le_refl 8, (show 128 * i.val + 128 ≤ 1536 by omega)⟩

theorem slicesCol (k : Fin 4) : S8x512.Slices ![0, 128 * k.val] S8x128 :=
  ⟨rfl, Fin.forall_fin_two.mpr ⟨le_refl 8, (show 128 * k.val + 128 ≤ 512 by omega)⟩⟩

theorem slicesRow (n : Fin 64) : S512x256.Slices ![8 * n.val, 0] S8x256 :=
  ⟨rfl, Fin.forall_fin_two.mpr ⟨(show 8 * n.val + 8 ≤ 512 by omega), le_refl 256⟩⟩

theorem slicesHalf (h : Fin 2) : S8x256.Slices ![0, 128 * h.val] S8x128 :=
  ⟨rfl, Fin.forall_fin_two.mpr ⟨le_refl 8, (show 128 * h.val + 128 ≤ 256 by omega)⟩⟩

/-- One over the norm of each of 512 codes, the same in each of eight rows. -/
def rinvRow (w : Vec F S512x384 .fp8e4m3) : FVec F S8x512 .f32 :=
  rsqrt (extractStridedSlice S8x512 ![0, 0]
    (matmul dot_S16x384_S512x384_S16x512_1_1_0_0_n_n none (broadcast S16x384 (Scalar.ofBits .bf16 0x3F80#16))
      (mulf (extf .bf16 w bitsLt_fp8e4m3_bf16) (extf .bf16 w bitsLt_fp8e4m3_bf16))
      (constant S16x512 .f32 0x00000000#32))
    slices_S16x512_o0_0_S8x512)

/-- Columns `128k … 128k+127` of that, turned so that each code is a row. -/
def rinvBlk (k : Fin 4) (w : Vec F S512x384 .fp8e4m3) : FVec F S128x128 .f32 :=
  have v : FVec F S8x128 .f32 := extractStridedSlice S8x128 ![0, 128 * k.val] (rinvRow w) (slicesCol k)
  shapeCast S128x128 (transpose S128x128 [1, 0]
    (concatenate S128x128 0 [⟨S8x128, v⟩, ⟨S8x128, v⟩, ⟨S8x128, v⟩, ⟨S8x128, v⟩, ⟨S8x128, v⟩, ⟨S8x128, v⟩,
      ⟨S8x128, v⟩, ⟨S8x128, v⟩, ⟨S8x128, v⟩, ⟨S8x128, v⟩, ⟨S8x128, v⟩, ⟨S8x128, v⟩, ⟨S8x128, v⟩, ⟨S8x128, v⟩,
      ⟨S8x128, v⟩, ⟨S8x128, v⟩]
      concatenates_S8x128_S8x128_S8x128_S8x128_S8x128_S8x128_S8x128_S8x128_S8x128_S8x128_S8x128_S8x128_S8x128_S8x128_S8x128_S8x128_S128x128_d0)
    transposes_S128x128_p1_0_S128x128) shapeCasts_S128x128_S128x128

/-- The sixteen stores of the inverse norms, newest first. -/
def fills (w : Fin 4 → Vec F S512x384 .fp8e4m3) : List (View.Piece (Elt F) S2048x128 .f32) :=
  View.tilePieces (NT := 16) S128x128.size (fun i => ![128 * i.val, 0]) inbFill
    (fun i => rinvBlk ⟨i.val % 4, Nat.mod_lt _ (by decide)⟩ (w ⟨i.val / 4, Nat.div_lt_of_lt_mul i.isLt⟩)) 16 (le_refl 16)

/-- 512 codes against 256 tokens. -/
def dot (w : Vec F S512x384 .fp8e4m3) (x : Vec F S256x384 .fp8e4m3) : FVec F S512x256 .f32 :=
  matmul dot_S512x384_S256x384_S512x256_1_1_0_0_n_n none w (shapeCast S256x384 x shapeCasts_S256x384_S256x384)
    (constant S512x256 .f32 0x00000000#32)

/-- Eight rows of the dots, half of their columns, times the inverse norms. -/
def chunk (d : FVec F S512x256 .f32) (n : Fin 64) (h : Fin 2) (r : Vec F S8x128 .f32) : FVec F S8x128 .f32 :=
  mulf (extractStridedSlice S8x128 ![0, 128 * h.val]
    (extractStridedSlice S8x256 ![8 * n.val, 0] d (slicesRow n)) (slicesHalf h)) r

/-- The running maximum after the first `j` chunks `v`, from `m`. -/
def acc1 (v : Fin 256 → FVec F S8x128 .f32) (m : FVec F S8x128 .f32) : (j : ℕ) → j ≤ 256 → FVec F S8x128 .f32
  | 0, _ => m
  | j + 1, h => maximumf (acc1 v m j (Nat.le_of_succ_le h)) (v ⟨j, h⟩)

/-- The running second maximum after the first `j` chunks, from maximum `m` and second maximum `s`. -/
def acc2 (v : Fin 256 → FVec F S8x128 .f32) (m s : FVec F S8x128 .f32) : (j : ℕ) → j ≤ 256 → FVec F S8x128 .f32
  | 0, _ => s
  | j + 1, h => maximumf (acc2 v m s j (Nat.le_of_succ_le h)) (minimumf (acc1 v m j (Nat.le_of_succ_le h)) (v ⟨j, h⟩))

/-- Tile `i`'s chunks: group `n / 64`, rows `8 (n % 64)`, token group `i / 2`, half `i % 2`. -/
def tile (w : Fin 4 → Vec F S512x384 .fp8e4m3) (x : Fin 6 → Vec F S256x384 .fp8e4m3)
    (r : Fin 256 → Vec F S8x128 .f32) (i : Fin 12) (n : Fin 256) : FVec F S8x128 .f32 :=
  chunk (dot (w ⟨n.val / 64, Nat.div_lt_of_lt_mul n.isLt⟩) (x ⟨i.val / 2, Nat.div_lt_of_lt_mul i.isLt⟩))
    ⟨n.val % 64, Nat.mod_lt _ (by decide)⟩ ⟨i.val % 2, Nat.mod_lt _ (by decide)⟩ (r n)

/-- What is stored into tile `i` of the maxima and of the second maxima. -/
def new1 (v : Fin 12 → Fin 256 → FVec F S8x128 .f32) (m : Fin 12 → Vec F S8x128 .f32) (i : Fin 12) :
    FVec F S8x128 .f32 :=
  shapeCast S8x128 (acc1 (v i) (m i) 256 (le_refl _)) shapeCasts_S8x128_S8x128
def new2 (v : Fin 12 → Fin 256 → FVec F S8x128 .f32) (m s : Fin 12 → Vec F S8x128 .f32) (i : Fin 12) :
    FVec F S8x128 .f32 :=
  shapeCast S8x128 (acc2 (v i) (m i) (s i) 256 (le_refl _)) shapeCasts_S8x128_S8x128

/-- The twelve stores of the maxima, newest first. -/
def stores1 (v : Fin 12 → Fin 256 → FVec F S8x128 .f32) (m : Fin 12 → Vec F S8x128 .f32) :
    List (View.Piece (Elt F) S8x1536 .f32) :=
  View.tilePieces (NT := 12) S8x128.size (fun i => ![0, 128 * i.val]) inbTile (new1 v m) 12 (le_refl 12)
def stores2 (v : Fin 12 → Fin 256 → FVec F S8x128 .f32) (m s : Fin 12 → Vec F S8x128 .f32) :
    List (View.Piece (Elt F) S8x1536 .f32) :=
  View.tilePieces (NT := 12) S8x128.size (fun i => ![0, 128 * i.val]) inbTile (new2 v m s) 12 (le_refl 12)

end Cert.Step

end
-- ==== Proof.Pieces.lean ====
/- The stores of the body at a point between the first and the last are the twelve loop results: the printed body
   runs its loops written out, and the two lists are equal term by term. -/
module

public import proofs.«01_k».proof.Proof.Gen.KernelIdeal.Frame.RunB
public import proofs.«01_k».proof.Proof.Step

@[expose] public section

noncomputable section

namespace Cert.Step

open Idealize.ShloMosaic Idealize.ShloMosaic.TcCoe Idealize.ShloMosaic.Tactic Cert.KernelIdeal Cert.KernelIdeal.Gen

variable {F : FTy → Type} [FloatOps F]

/-- The four groups of codes of the point. -/
def groups (arg2 : Memref sig .tc .vmem S2048x384 .fp8e4m3) (harg2 : arg2.IsWhole) (x1 : Vec F S2048x384 .fp8e4m3)
    (j : Fin 4) : Vec F S512x384 .fp8e4m3 :=
  View.readAt (Elt F) arg2.view (Rect.unit (s := S2048x384) ![512 * j.val, 0] S512x384.size (inbW j)).toLoadRect (harg2.unread x1)

/-- The six groups of tokens. -/
def tokens (arg1 : Memref sig .tc .vmem S1536x384 .fp8e4m3) (harg1 : arg1.IsWhole) (x0 : Vec F S1536x384 .fp8e4m3)
    (t : Fin 6) : Vec F S256x384 .fp8e4m3 :=
  View.readAt (Elt F) arg1.view (Rect.unit (s := S1536x384) ![256 * t.val, 0] S256x384.size (inbX t)).toLoadRect (harg1.unread x0)

/-- Chunk `n`'s inverse norms, read back from the stores. -/
def rinvs (arg5 : Memref sig .tc .vmem S2048x128 .f32) (w : Fin 4 → Vec F S512x384 .fp8e4m3) (n : Fin 256) :
    Vec F S8x128 .f32 :=
  arg5.view.readCov (fills w) (Rect.unit (s := S2048x128) ![8 * n.val, 0] S8x128.size (inbChunk n)).toLoadRect

/-- Every tile's chunks at the point. -/
def tiles (arg1 : Memref sig .tc .vmem S1536x384 .fp8e4m3) (harg1 : arg1.IsWhole)
    (arg2 : Memref sig .tc .vmem S2048x384 .fp8e4m3) (harg2 : arg2.IsWhole)
    (arg5 : Memref sig .tc .vmem S2048x128 .f32) (x0 : Vec F S1536x384 .fp8e4m3) (x1 : Vec F S2048x384 .fp8e4m3) :
    Fin 12 → Fin 256 → FVec F S8x128 .f32 :=
  tile (groups arg2 harg2 x1) (tokens arg1 harg1 x0) (rinvs arg5 (groups arg2 harg2 x1))

/-- Tile `i` of an 8×1536 array held before the point. -/
def held (arg6 : Memref sig .tc .vmem S8x1536 .f32) (harg6 : arg6.IsWhole) (xs : Vec F S8x1536 .f32) (i : Fin 12) :
    Vec F S8x128 .f32 :=
  View.readAt (Elt F) arg6.view (Rect.unit (s := S8x1536) ![0, 128 * i.val] S8x128.size (inbTile i)).toLoadRect (harg6.unread xs)

theorem fills_B (c : Dev nD) (i : grid0.Coords) (arg1 : Memref sig .tc .vmem S1536x384 .fp8e4m3) (harg1 : arg1.IsWhole) (arg2 : Memref sig .tc .vmem S2048x384 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S2048x128 .f32) (harg5 : arg5.IsWhole) (arg6 : Memref sig .tc .vmem S8x1536 .f32) (harg6 : arg6.IsWhole) (arg7 : Memref sig .tc .vmem S8x1536 .f32) (harg7 : arg7.IsWhole) (hc0 : ¬cond0_0 i) (hc1 : ¬cond0_1 i)
    (x0 : Vec F S1536x384 .fp8e4m3) (x1 : Vec F S2048x384 .fp8e4m3) (xs1 : Vec F S8x1536 .f32) (xs2 : Vec F S8x1536 .f32) :
    (kernelRun0_B c i arg1 harg1 arg2 harg2 arg3 harg3 arg4 harg4 arg5 harg5 arg6 harg6 arg7 harg7 hc0 hc1 x0 x1 xs1 xs2).2.2.2.2.1
      = fills (groups arg2 harg2 x1) := by
  sl_kernel_rfl

theorem stores1_B (c : Dev nD) (i : grid0.Coords) (arg1 : Memref sig .tc .vmem S1536x384 .fp8e4m3) (harg1 : arg1.IsWhole) (arg2 : Memref sig .tc .vmem S2048x384 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S2048x128 .f32) (harg5 : arg5.IsWhole) (arg6 : Memref sig .tc .vmem S8x1536 .f32) (harg6 : arg6.IsWhole) (arg7 : Memref sig .tc .vmem S8x1536 .f32) (harg7 : arg7.IsWhole) (hc0 : ¬cond0_0 i) (hc1 : ¬cond0_1 i)
    (x0 : Vec F S1536x384 .fp8e4m3) (x1 : Vec F S2048x384 .fp8e4m3) (xs1 : Vec F S8x1536 .f32) (xs2 : Vec F S8x1536 .f32) :
    (kernelRun0_B c i arg1 harg1 arg2 harg2 arg3 harg3 arg4 harg4 arg5 harg5 arg6 harg6 arg7 harg7 hc0 hc1 x0 x1 xs1 xs2).2.2.1
      = stores1 (tiles arg1 harg1 arg2 harg2 arg5 x0 x1) (held arg6 harg6 xs1) := by
  sl_kernel_rfl

theorem stores2_B (c : Dev nD) (i : grid0.Coords) (arg1 : Memref sig .tc .vmem S1536x384 .fp8e4m3) (harg1 : arg1.IsWhole) (arg2 : Memref sig .tc .vmem S2048x384 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S2048x128 .f32) (harg5 : arg5.IsWhole) (arg6 : Memref sig .tc .vmem S8x1536 .f32) (harg6 : arg6.IsWhole) (arg7 : Memref sig .tc .vmem S8x1536 .f32) (harg7 : arg7.IsWhole) (hc0 : ¬cond0_0 i) (hc1 : ¬cond0_1 i)
    (x0 : Vec F S1536x384 .fp8e4m3) (x1 : Vec F S2048x384 .fp8e4m3) (xs1 : Vec F S8x1536 .f32) (xs2 : Vec F S8x1536 .f32) :
    (kernelRun0_B c i arg1 harg1 arg2 harg2 arg3 harg3 arg4 harg4 arg5 harg5 arg6 harg6 arg7 harg7 hc0 hc1 x0 x1 xs1 xs2).2.2.2.1
      = stores2 (tiles arg1 harg1 arg2 harg2 arg5 x0 x1) (held arg6 harg6 xs1) (held arg7 harg7 xs2) := by
  sl_kernel_rfl

end Cert.Step

end
-- ==== Proof.PiecesA.lean ====
/- The stores of the body at the first point: both arrays are filled with −∞ and the twelve loop results follow,
   each loop starting from what is there by then. -/
module

public import proofs.«01_k».proof.Proof.Gen.KernelIdeal.Frame.RunA
public import proofs.«01_k».proof.Proof.Pieces

@[expose] public section

noncomputable section

namespace Cert.Step

open Idealize.ShloMosaic Idealize.ShloMosaic.TcCoe Idealize.ShloMosaic.Tactic Cert.KernelIdeal Cert.KernelIdeal.Gen

variable {F : FTy → Type} [FloatOps F]

/-- An 8×1536 array of −∞. -/
def bottoms : FVec F S8x1536 .f32 :=
  shapeCast S8x1536 (broadcast S8x1536 (Scalar.ofBits .f32 0xFF800000#32)) shapeCasts_S8x1536_S8x1536

/-- What a load of tile `i` finds after the stores `L`. -/
def found (arg6 : Memref sig .tc .vmem S8x1536 .f32) (L : List (View.Piece (Elt F) S8x1536 .f32)) (i : Fin 12) :
    Vec F S8x128 .f32 :=
  arg6.view.readCov L (Rect.unit (s := S8x1536) ![0, 128 * i.val] S8x128.size (inbTile i)).toLoadRect

/-- The fill, then the stores of the first `t` token groups, two tiles each, newest first: `P L` is what is stored
    into each tile when the loads find the stores `L`. -/
def grow (P : List (View.Piece (Elt F) S8x1536 .f32) → Fin 12 → FVec F S8x128 .f32) :
    (t : ℕ) → t ≤ 6 → List (View.Piece (Elt F) S8x1536 .f32)
  | 0, _ => [⟨Rect.unit (s := S8x1536) ![0, 0] S8x1536.size inb_S8x1536_S8x1536_0_0, bottoms⟩]
  | t + 1, h =>
    have L := grow P t (Nat.le_of_succ_le h)
    ⟨Rect.unit (s := S8x1536) ![0, 128 * (2 * t + 1)] S8x128.size (inbTile ⟨2 * t + 1, by omega⟩), P L ⟨2 * t + 1, by omega⟩⟩
      :: ⟨Rect.unit (s := S8x1536) ![0, 128 * (2 * t)] S8x128.size (inbTile ⟨2 * t, by omega⟩), P L ⟨2 * t, by omega⟩⟩ :: L

theorem stores1_A (c : Dev nD) (i : grid0.Coords)
    (arg1 : Memref sig .tc .vmem S1536x384 .fp8e4m3) (harg1 : arg1.IsWhole) (arg2 : Memref sig .tc .vmem S2048x384 .fp8e4m3) (harg2 : arg2.IsWhole)
    (arg3 : Memref sig .tc .vmem S6x256 .f32) (harg3 : arg3.IsWhole) (arg4 : Memref sig .tc .vmem S6x256 .f32) (harg4 : arg4.IsWhole)
    (arg5 : Memref sig .tc .vmem S2048x128 .f32) (harg5 : arg5.IsWhole) (arg6 : Memref sig .tc .vmem S8x1536 .f32) (harg6 : arg6.IsWhole)
    (arg7 : Memref sig .tc .vmem S8x1536 .f32) (harg7 : arg7.IsWhole)
    (hc0 : cond0_0 i) (hc1 : ¬cond0_1 i) (x0 : Vec F S1536x384 .fp8e4m3) (x1 : Vec F S2048x384 .fp8e4m3) :
    (kernelRun0_A c i arg1 harg1 arg2 harg2 arg3 harg3 arg4 harg4 arg5 harg5 arg6 harg6 arg7 harg7 hc0 hc1
      x0 x1).2.2.1
      = grow (fun L => new1 (tiles arg1 harg1 arg2 harg2 arg5 x0 x1) (found arg6 L)) 6 (le_refl 6) := by
  sl_kernel_rfl

theorem stores2_A (c : Dev nD) (i : grid0.Coords)
    (arg1 : Memref sig .tc .vmem S1536x384 .fp8e4m3) (harg1 : arg1.IsWhole) (arg2 : Memref sig .tc .vmem S2048x384 .fp8e4m3) (harg2 : arg2.IsWhole)
    (arg3 : Memref sig .tc .vmem S6x256 .f32) (harg3 : arg3.IsWhole) (arg4 : Memref sig .tc .vmem S6x256 .f32) (harg4 : arg4.IsWhole)
    (arg5 : Memref sig .tc .vmem S2048x128 .f32) (harg5 : arg5.IsWhole) (arg6 : Memref sig .tc .vmem S8x1536 .f32) (harg6 : arg6.IsWhole)
    (arg7 : Memref sig .tc .vmem S8x1536 .f32) (harg7 : arg7.IsWhole)
    (hc0 : cond0_0 i) (hc1 : ¬cond0_1 i) (x0 : Vec F S1536x384 .fp8e4m3) (x1 : Vec F S2048x384 .fp8e4m3) :
    (kernelRun0_A c i arg1 harg1 arg2 harg2 arg3 harg3 arg4 harg4 arg5 harg5 arg6 harg6 arg7 harg7 hc0 hc1
      x0 x1).2.2.2.1
      = grow (fun L i => new2 (tiles arg1 harg1 arg2 harg2 arg5 x0 x1)
          (found arg6 (grow (fun L' => new1 (tiles arg1 harg1 arg2 harg2 arg5 x0 x1) (found arg6 L')) (i.val / 2) (by omega)))
          (found arg7 L) i) 6 (le_refl 6) := by
  sl_kernel_rfl

end Cert.Step

end
-- ==== Proof.Last.lean ====
/- What the body does at the last point with the two 8×1536 arrays of maxima and second maxima.

   Three turns of the rows, by 4, 2 and 1, bring every row's pair into every row. Then each of the six token groups
   is turned into distances against the tokens' norms, and its first row is stored. -/
module

public import proofs.«01_k».proof.Proof.Pieces

@[expose] public section

noncomputable section

namespace Cert.Step

open Idealize.ShloMosaic Cert.KernelIdeal Cert.KernelIdeal.Gen

variable {F : FTy → Type} [FloatOps F]

theorem slicesTok (t : Fin 6) : S8x1536.Slices ![0, 256 * t.val] S8x256 :=
  ⟨rfl, Fin.forall_fin_two.mpr ⟨le_refl 8, (show 256 * t.val + 256 ≤ 1536 by omega)⟩⟩

theorem inbRow (t : Fin 6) : ∀ a, (![t.val, 0] : Fin 2 → ℕ) a + S1x256.size a ≤ S6x256.size a :=
  Fin.forall_fin_two.mpr ⟨(show t.val + 1 ≤ 6 by omega), le_refl 256⟩

/-- What a load of the whole array finds after the stores `L`. -/
def whole (arg6 : Memref sig .tc .vmem S8x1536 .f32) (L : List (View.Piece (Elt F) S8x1536 .f32)) : Vec F S8x1536 .f32 :=
  arg6.view.readCov L (Rect.unit (s := S8x1536) ![0, 0] S8x1536.size inb_S8x1536_S8x1536_0_0).toLoadRect

/-- The rows turned by `k`. -/
def turn (k : BitVec 32) (v : FVec F S8x1536 .f32) : FVec F S8x1536 .f32 :=
  dynamicRotate 0 k none v rotates_S8x1536_d0

/-- The maxima after joining each row with the one `k` away; -/
def join1 (k : BitVec 32) (m : FVec F S8x1536 .f32) : FVec F S8x1536 .f32 := maximumf m (turn k m)

/-- and the second maxima. -/
def join2 (k : BitVec 32) (m s : FVec F S8x1536 .f32) : FVec F S8x1536 .f32 :=
  maximumf (minimumf m (turn k m)) (maximumf s (turn k s))

/-- The three joins. -/
def all1 (m : FVec F S8x1536 .f32) : FVec F S8x1536 .f32 := join1 1#32 (join1 2#32 (join1 4#32 m))
def all2 (m s : FVec F S8x1536 .f32) : FVec F S8x1536 .f32 :=
  join2 1#32 (join1 2#32 (join1 4#32 m)) (join2 2#32 (join1 4#32 m) (join2 4#32 m s))

/-- The norms of 256 tokens, the same in each of eight rows. -/
def norms (x : Vec F S256x384 .fp8e4m3) : FVec F S8x256 .f32 :=
  sqrt (extractStridedSlice S8x256 ![0, 0]
    (matmul dot_S16x384_S256x384_S16x256_1_1_0_0_n_n none (broadcast S16x384 (Scalar.ofBits .bf16 0x3F80#16))
      (mulf (extf .bf16 (shapeCast S256x384 x shapeCasts_S256x384_S256x384) bitsLt_fp8e4m3_bf16)
        (extf .bf16 (shapeCast S256x384 x shapeCasts_S256x384_S256x384) bitsLt_fp8e4m3_bf16))
      (constant S16x256 .f32 0x00000000#32))
    slices_S16x256_o0_0_S8x256)

/-- The distances of token group `t` from the scaled dots `m`. -/
def dists (t : Fin 6) (m : FVec F S8x1536 .f32) (x : Vec F S256x384 .fp8e4m3) : FVec F S8x256 .f32 :=
  select (cmpf .oeq (norms x) (broadcast S8x256 (Scalar.ofBits .f32 0x00000000#32)))
    (broadcast S8x256 (Scalar.ofBits .f32 0x40000000#32))
    (subf (broadcast S8x256 (Scalar.ofBits .f32 0x40000000#32))
      (mulf (broadcast S8x256 (Scalar.ofBits .f32 0x40000000#32))
        (divf (extractStridedSlice S8x256 ![0, 256 * t.val] m (slicesTok t)) (norms x))))

/-- The row of group `t` stored into each output, from the arrays the point leaves. -/
def row1 (m : FVec F S8x1536 .f32) (x : Fin 6 → Vec F S256x384 .fp8e4m3) (t : Fin 6) : FVec F S1x256 .f32 :=
  extractStridedSlice S1x256 ![0, 0] (dists t (all1 m) (x t)) slices_S8x256_o0_0_S1x256
def row2 (m s : FVec F S8x1536 .f32) (x : Fin 6 → Vec F S256x384 .fp8e4m3) (t : Fin 6) : FVec F S1x256 .f32 :=
  extractStridedSlice S1x256 ![0, 0] (subf (dists t (all2 m s) (x t)) (dists t (all1 m) (x t)))
    slices_S8x256_o0_0_S1x256

/-- The six stores of an output, newest first. -/
def rowStores (P : Fin 6 → FVec F S1x256 .f32) : List (View.Piece (Elt F) S6x256 .f32) :=
  View.tilePieces (NT := 6) S1x256.size (fun t => ![t.val, 0]) inbRow P 6 (le_refl 6)

end Cert.Step

end
-- ==== Proof.PiecesC.lean ====
/- The stores of the body at the last point: the twelve loop results, then the two outputs, row by row. -/
module

public import proofs.«01_k».proof.Proof.Gen.KernelIdeal.Frame.RunC
public import proofs.«01_k».proof.Proof.Last

@[expose] public section

noncomputable section

namespace Cert.Step

open Idealize.ShloMosaic Idealize.ShloMosaic.TcCoe Idealize.ShloMosaic.Tactic Cert.KernelIdeal Cert.KernelIdeal.Gen

variable {F : FTy → Type} [FloatOps F]

theorem stores1_C (c : Dev nD) (i : grid0.Coords)
    (arg1 : Memref sig .tc .vmem S1536x384 .fp8e4m3) (harg1 : arg1.IsWhole) (arg2 : Memref sig .tc .vmem S2048x384 .fp8e4m3) (harg2 : arg2.IsWhole)
    (arg3 : Memref sig .tc .vmem S6x256 .f32) (harg3 : arg3.IsWhole) (arg4 : Memref sig .tc .vmem S6x256 .f32) (harg4 : arg4.IsWhole)
    (arg5 : Memref sig .tc .vmem S2048x128 .f32) (harg5 : arg5.IsWhole) (arg6 : Memref sig .tc .vmem S8x1536 .f32) (harg6 : arg6.IsWhole)
    (arg7 : Memref sig .tc .vmem S8x1536 .f32) (harg7 : arg7.IsWhole)
    (hc0 : ¬cond0_0 i) (hc1 : cond0_1 i) (x0 : Vec F S1536x384 .fp8e4m3) (x1 : Vec F S2048x384 .fp8e4m3) (xs1 xs2 : Vec F S8x1536 .f32) :
    (kernelRun0_C c i arg1 harg1 arg2 harg2 arg3 harg3 arg4 harg4 arg5 harg5 arg6 harg6 arg7 harg7 hc0 hc1
      x0 x1 xs1 xs2).2.2.1
      = stores1 (tiles arg1 harg1 arg2 harg2 arg5 x0 x1) (held arg6 harg6 xs1) := by
  sl_kernel_rfl

theorem stores2_C (c : Dev nD) (i : grid0.Coords)
    (arg1 : Memref sig .tc .vmem S1536x384 .fp8e4m3) (harg1 : arg1.IsWhole) (arg2 : Memref sig .tc .vmem S2048x384 .fp8e4m3) (harg2 : arg2.IsWhole)
    (arg3 : Memref sig .tc .vmem S6x256 .f32) (harg3 : arg3.IsWhole) (arg4 : Memref sig .tc .vmem S6x256 .f32) (harg4 : arg4.IsWhole)
    (arg5 : Memref sig .tc .vmem S2048x128 .f32) (harg5 : arg5.IsWhole) (arg6 : Memref sig .tc .vmem S8x1536 .f32) (harg6 : arg6.IsWhole)
    (arg7 : Memref sig .tc .vmem S8x1536 .f32) (harg7 : arg7.IsWhole)
    (hc0 : ¬cond0_0 i) (hc1 : cond0_1 i) (x0 : Vec F S1536x384 .fp8e4m3) (x1 : Vec F S2048x384 .fp8e4m3) (xs1 xs2 : Vec F S8x1536 .f32) :
    (kernelRun0_C c i arg1 harg1 arg2 harg2 arg3 harg3 arg4 harg4 arg5 harg5 arg6 harg6 arg7 harg7 hc0 hc1
      x0 x1 xs1 xs2).2.2.2.1
      = stores2 (tiles arg1 harg1 arg2 harg2 arg5 x0 x1) (held arg6 harg6 xs1) (held arg7 harg7 xs2) := by
  sl_kernel_rfl

theorem out1_C (c : Dev nD) (i : grid0.Coords)
    (arg1 : Memref sig .tc .vmem S1536x384 .fp8e4m3) (harg1 : arg1.IsWhole) (arg2 : Memref sig .tc .vmem S2048x384 .fp8e4m3) (harg2 : arg2.IsWhole)
    (arg3 : Memref sig .tc .vmem S6x256 .f32) (harg3 : arg3.IsWhole) (arg4 : Memref sig .tc .vmem S6x256 .f32) (harg4 : arg4.IsWhole)
    (arg5 : Memref sig .tc .vmem S2048x128 .f32) (harg5 : arg5.IsWhole) (arg6 : Memref sig .tc .vmem S8x1536 .f32) (harg6 : arg6.IsWhole)
    (arg7 : Memref sig .tc .vmem S8x1536 .f32) (harg7 : arg7.IsWhole)
    (hc0 : ¬cond0_0 i) (hc1 : cond0_1 i) (x0 : Vec F S1536x384 .fp8e4m3) (x1 : Vec F S2048x384 .fp8e4m3) (xs1 xs2 : Vec F S8x1536 .f32) :
    (kernelRun0_C c i arg1 harg1 arg2 harg2 arg3 harg3 arg4 harg4 arg5 harg5 arg6 harg6 arg7 harg7 hc0 hc1
      x0 x1 xs1 xs2).1
      = rowStores (row1 (whole arg6 (stores1 (tiles arg1 harg1 arg2 harg2 arg5 x0 x1) (held arg6 harg6 xs1)))
          (tokens arg1 harg1 x0)) := by
  sl_kernel_rfl

theorem out2_C (c : Dev nD) (i : grid0.Coords)
    (arg1 : Memref sig .tc .vmem S1536x384 .fp8e4m3) (harg1 : arg1.IsWhole) (arg2 : Memref sig .tc .vmem S2048x384 .fp8e4m3) (harg2 : arg2.IsWhole)
    (arg3 : Memref sig .tc .vmem S6x256 .f32) (harg3 : arg3.IsWhole) (arg4 : Memref sig .tc .vmem S6x256 .f32) (harg4 : arg4.IsWhole)
    (arg5 : Memref sig .tc .vmem S2048x128 .f32) (harg5 : arg5.IsWhole) (arg6 : Memref sig .tc .vmem S8x1536 .f32) (harg6 : arg6.IsWhole)
    (arg7 : Memref sig .tc .vmem S8x1536 .f32) (harg7 : arg7.IsWhole)
    (hc0 : ¬cond0_0 i) (hc1 : cond0_1 i) (x0 : Vec F S1536x384 .fp8e4m3) (x1 : Vec F S2048x384 .fp8e4m3) (xs1 xs2 : Vec F S8x1536 .f32) :
    (kernelRun0_C c i arg1 harg1 arg2 harg2 arg3 harg3 arg4 harg4 arg5 harg5 arg6 harg6 arg7 harg7 hc0 hc1
      x0 x1 xs1 xs2).2.1
      = rowStores (row2 (whole arg6 (stores1 (tiles arg1 harg1 arg2 harg2 arg5 x0 x1) (held arg6 harg6 xs1)))
          (whole arg7 (stores2 (tiles arg1 harg1 arg2 harg2 arg5 x0 x1) (held arg6 harg6 xs1) (held arg7 harg7 xs2)))
          (tokens arg1 harg1 x0)) := by
  sl_kernel_rfl

end Cert.Step

end
-- ==== Proof.Read.lean ====
/- What the stores leave, index by index: every list of stores tiles its array, so each entry is the entry of the one
   store whose rectangle holds it. -/
module

public import proofs.«01_k».proof.Proof.Gen.KernelIdeal.Frame
public import proofs.«01_k».proof.Proof.PiecesA
public import proofs.«01_k».proof.Proof.PiecesC
public import Idealize.ShloMosaic.Lib.Pointwise
public import Idealize.ShloMosaic.Lib.WholeRead

@[expose] public section

noncomputable section

namespace Cert.Step

open Idealize.ShloMosaic Cert.KernelIdeal Cert.KernelIdeal.Gen

variable {F : FTy → Type} [FloatOps F]

/-- What a list of stores leaves at an index in the last store's rectangle, -/
theorem canon_unit_mem {Val : EltTy → Type} [∀ e, Nonempty (Val e)] {s : Shape} {e : EltTy} (off size : Fin s.rank → ℕ)
    (inb : ∀ a, off a + size a ≤ s.size a) (w : (Rect.unit off size inb).shape.Idx → Val e)
    (L : List (View.Piece Val s e)) (y : s.Idx) (x : (Rect.unit off size inb).shape.Idx)
    (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- and at an index that misses it. -/
theorem canon_unit_miss {Val : EltTy → Type} [∀ e, Nonempty (Val e)] {s : Shape} {e : EltTy} (off size : Fin s.rank → ℕ)
    (inb : ∀ a, off a + size a ≤ s.size a) (w : (Rect.unit off size inb).shape.Idx → Val e)
    (L : List (View.Piece Val s e)) (y : s.Idx) (a : Fin s.rank)
    (ha : (y a).val < off a ∨ off a + size a ≤ (y a).val) :
    View.canon ((⟨Rect.unit off size inb, w⟩ : View.Piece Val s e) :: L) y = View.canon L y := by
  refine View.canon_cons_of_not_mem _ L ?_
  rw [Rect.mem_set_unit]
  intro h
  have := h a
  omega

/-- The same at rank 2, by coordinates. -/
theorem canon2_mem {n0 n1 k0 k1 : ℕ} {e : EltTy} (o0 o1 : ℕ)
    (inb : ∀ a, (![o0, o1] : Fin 2 → ℕ) a + (![k0, k1] : Fin 2 → ℕ) a ≤ (⟨2, ![n0, n1]⟩ : Shape).size a)
    (w : (⟨2, ![k0, k1]⟩ : Shape).Idx → Elt F e) (L : List (View.Piece (Elt F) ⟨2, ![n0, n1]⟩ e))
    (r : Fin n0) (c : Fin n1) (r' : Fin k0) (c' : Fin k1) (h0 : r.val = o0 + r'.val) (h1 : c.val = o1 + c'.val) :
    View.canon ((⟨Rect.unit (s := ⟨2, ![n0, n1]⟩) ![o0, o1] ![k0, k1] inb, w⟩ : View.Piece (Elt F) ⟨2, ![n0, n1]⟩ e) :: L)
      (ix2 r c) = w (ix2 r' c') :=
  canon_unit_mem (s := ⟨2, ![n0, n1]⟩) ![o0, o1] ![k0, k1] inb w L (ix2 r c) (ix2 r' c') (Fin.forall_fin_two.mpr ⟨h0, h1⟩)

theorem canon2_miss {n0 n1 k0 k1 : ℕ} {e : EltTy} (o0 o1 : ℕ)
    (inb : ∀ a, (![o0, o1] : Fin 2 → ℕ) a + (![k0, k1] : Fin 2 → ℕ) a ≤ (⟨2, ![n0, n1]⟩ : Shape).size a)
    (w : (⟨2, ![k0, k1]⟩ : Shape).Idx → Elt F e) (L : List (View.Piece (Elt F) ⟨2, ![n0, n1]⟩ e))
    (r : Fin n0) (c : Fin n1) (h : (r.val < o0 ∨ o0 + k0 ≤ r.val) ∨ (c.val < o1 ∨ o1 + k1 ≤ c.val)) :
    View.canon ((⟨Rect.unit (s := ⟨2, ![n0, n1]⟩) ![o0, o1] ![k0, k1] inb, w⟩ : View.Piece (Elt F) ⟨2, ![n0, n1]⟩ e) :: L)
      (ix2 r c) = View.canon L (ix2 r c) := by
  rcases h with h | h
  · exact canon_unit_miss (s := ⟨2, ![n0, n1]⟩) ![o0, o1] ![k0, k1] inb w L (ix2 r c) 0 h
  · exact canon_unit_miss (s := ⟨2, ![n0, n1]⟩) ![o0, o1] ![k0, k1] inb w L (ix2 r c) 1 h

/-- Stores of equal tiles, at an index of tile `i` that misses the others. -/
theorem canon2_tilePieces {n0 n1 k0 k1 NT : ℕ} {e : EltTy} (o0 o1 : Fin NT → ℕ)
    (inb : ∀ i a, (![o0 i, o1 i] : Fin 2 → ℕ) a + (![k0, k1] : Fin 2 → ℕ) a ≤ (⟨2, ![n0, n1]⟩ : Shape).size a)
    (P : Fin NT → (⟨2, ![k0, k1]⟩ : Shape).Idx → Elt F e) (r : Fin n0) (c : Fin n1) (i : Fin NT) (r' : Fin k0)
    (c' : Fin k1) (h0 : r.val = o0 i + r'.val) (h1 : c.val = o1 i + c'.val)
    (hdis : ∀ i' : Fin NT, i' ≠ i → (r.val < o0 i' ∨ o0 i' + k0 ≤ r.val) ∨ (c.val < o1 i' ∨ o1 i' + k1 ≤ c.val)) :
    ∀ (j : ℕ) (hj : j ≤ NT), i.val < j →
      View.canon (View.tilePieces (s := ⟨2, ![n0, n1]⟩) ![k0, k1] (fun i => ![o0 i, o1 i]) inb P j hj) (ix2 r c)
        = P i (ix2 r' c') := by
  intro j
  induction j with
  | zero => intro _ h; omega
  | succ j ih =>
    intro hj hi
    rw [View.tilePieces_succ]
    by_cases hn : (⟨j, hj⟩ : Fin NT) = i
    · subst hn
      exact canon2_mem _ _ _ _ _ r c r' c' h0 h1
    · exact (canon2_miss _ _ _ _ _ r c (hdis _ hn)).trans
        (ih _ (by have : i.val ≠ j := fun h => hn (Fin.ext h.symm); omega))

/-- The index that a rectangle of `k0 × k1` at `(o0, o1)` gives its entry `(r, l)`. -/
theorem unit_idx {n0 n1 k0 k1 o0 o1 : ℕ}
    (h : ∀ a, (![o0, o1] : Fin 2 → ℕ) a + (⟨2, ![k0, k1]⟩ : Shape).size a ≤ (⟨2, ![n0, n1]⟩ : Shape).size a)
    (r : Fin k0) (l : Fin k1) (h0 : o0 + r.val < n0) (h1 : o1 + l.val < n1) :
    (Rect.unit (s := ⟨2, ![n0, n1]⟩) ![o0, o1] (⟨2, ![k0, k1]⟩ : Shape).size h).toLoadRect.idx (ix2 r l)
      = ix2 ⟨o0 + r.val, h0⟩ ⟨o1 + l.val, h1⟩ :=
  funext (Fin.forall_fin_two.mpr ⟨Fin.ext (show o0 + 1 * r.val = o0 + r.val by omega),
    Fin.ext (show o1 + 1 * l.val = o1 + l.val by omega)⟩)

/-- Tile of a token and place within it. -/
def tileOf (c : Fin 1536) : Fin 12 := ⟨c.val / 128, by omega⟩
def inTile (c : Fin 1536) : Fin 128 := ⟨c.val % 128, by omega⟩

theorem canon_tiles (P : Fin 12 → FVec F S8x128 .f32) (r : Fin 8) (c : Fin 1536) :
    View.canon (View.tilePieces (Val := Elt F) (s := S8x1536) (e := .f32) (NT := 12) S8x128.size
      (fun i => ![0, 128 * i.val]) inbTile P 12 (le_refl 12)) (ix2 r c) = P (tileOf c) (ix2 r (inTile c)) := by
  have h := canon2_tilePieces (F := F) (e := .f32) (fun _ => 0) (fun i => 128 * i.val) inbTile P r c (tileOf c) r (inTile c) (Nat.zero_add _).symm
    (Nat.div_add_mod c.val 128).symm
    (fun i hi => Or.inr (by
      have : i.val ≠ c.val / 128 := fun h => hi (Fin.ext h)
      omega)) 12 (le_refl 12) (tileOf c).isLt
  exact h

theorem canon_fills (w : Fin 4 → Vec F S512x384 .fp8e4m3) (r : Fin 2048) (l : Fin 128) :
    View.canon (fills w) (ix2 r l)
      = rinvBlk ⟨r.val / 128 % 4, by omega⟩ (w ⟨r.val / 128 / 4, by omega⟩) (ix2 ⟨r.val % 128, by omega⟩ l) := by
  have h := canon2_tilePieces (F := F) (e := .f32) (fun i : Fin 16 => 128 * i.val) (fun _ => 0) inbFill
    (fun i => rinvBlk ⟨i.val % 4, Nat.mod_lt _ (by decide)⟩ (w ⟨i.val / 4, Nat.div_lt_of_lt_mul i.isLt⟩)) r l
    ⟨r.val / 128, by omega⟩
    ⟨r.val % 128, by omega⟩ l (Nat.div_add_mod r.val 128).symm (Nat.zero_add _).symm
    (fun i hi => Or.inl (by
      have : i.val ≠ r.val / 128 := fun h => hi (Fin.ext h)
      omega)) 16 (le_refl 16) (by show r.val / 128 < 16; omega)
  exact h

theorem canon_rows (P : Fin 6 → FVec F S1x256 .f32) (t : Fin 6) (l : Fin 256) :
    View.canon (rowStores P) (ix2 t l) = P t (ix2 0 l) := by
  have h := canon2_tilePieces (F := F) (e := .f32) (fun t : Fin 6 => t.val) (fun _ => 0) inbRow P t l t 0 l (Nat.add_zero _).symm (Nat.zero_add _).symm
    (fun i hi => Or.inl (by
      have : i.val ≠ t.val := fun h => hi (Fin.ext h)
      omega)) 6 (le_refl 6) t.isLt
  exact h

/-- At the first point, before its own group is stored an entry is still −∞; -/
theorem canon_grow_of_le (P : List (View.Piece (Elt F) S8x1536 .f32) → Fin 12 → FVec F S8x128 .f32) (r : Fin 8)
    (c : Fin 1536) : ∀ (t : ℕ) (ht : t ≤ 6), 256 * t ≤ c.val → View.canon (grow P t ht) (ix2 r c) = bottoms (ix2 r c) := by
  intro t
  induction t with
  | zero =>
    intro ht _
    have h := canon2_mem (F := F) (e := .f32) (n0 := 8) (n1 := 1536) (k0 := 8) (k1 := 1536) 0 0 inb_S8x1536_S8x1536_0_0 bottoms []
      r c r c (Nat.zero_add _).symm (Nat.zero_add _).symm
    exact h
  | succ t ih =>
    intro ht hc
    rw [← ih (by omega) (by omega)]
    exact (canon2_miss (n0 := 8) (n1 := 1536) (k0 := 8) (k1 := 128) 0 (128 * (2 * t + 1)) _ _ _ r c
      (Or.inr (Or.inr (by omega)))).trans
      (canon2_miss (n0 := 8) (n1 := 1536) (k0 := 8) (k1 := 128) 0 (128 * (2 * t)) _ _ _ r c (Or.inr (Or.inr (by omega))))

/-- afterwards it is what was stored, from what the loads of its group found. -/
theorem canon_grow_of_lt (P : List (View.Piece (Elt F) S8x1536 .f32) → Fin 12 → FVec F S8x128 .f32) (r : Fin 8)
    (c : Fin 1536) : ∀ (t : ℕ) (ht : t ≤ 6), c.val < 256 * t →
      View.canon (grow P t ht) (ix2 r c) = P (grow P (c.val / 256) (by omega)) (tileOf c) (ix2 r (inTile c)) := by
  intro t
  induction t with
  | zero => intro _ h; omega
  | succ t ih =>
    intro ht hc
    by_cases h : c.val < 256 * t
    · rw [← ih (by omega) h]
      exact (canon2_miss (n0 := 8) (n1 := 1536) (k0 := 8) (k1 := 128) 0 (128 * (2 * t + 1)) _ _ _ r c
        (Or.inr (Or.inl (by omega)))).trans
        (canon2_miss (n0 := 8) (n1 := 1536) (k0 := 8) (k1 := 128) 0 (128 * (2 * t)) _ _ _ r c (Or.inr (Or.inl (by omega))))
    · obtain rfl : t = c.val / 256 := by omega
      by_cases h1 : 128 * (2 * (c.val / 256) + 1) ≤ c.val
      · have e : tileOf c = ⟨2 * (c.val / 256) + 1, by omega⟩ := Fin.ext (by show c.val / 128 = _; dsimp only; omega)
        rw [e]
        exact canon2_mem (n0 := 8) (n1 := 1536) (k0 := 8) (k1 := 128) 0 (128 * (2 * (c.val / 256) + 1)) _ _ _ r c r
          (inTile c) (Nat.zero_add _).symm (by show c.val = 128 * (2 * (c.val / 256) + 1) + c.val % 128; omega)
      · have e : tileOf c = ⟨2 * (c.val / 256), by omega⟩ := Fin.ext (by show c.val / 128 = _; dsimp only; omega)
        rw [e]
        exact (canon2_miss (n0 := 8) (n1 := 1536) (k0 := 8) (k1 := 128) 0 (128 * (2 * (c.val / 256) + 1)) _ _ _ r c
          (Or.inr (Or.inl (by omega)))).trans
          (canon2_mem (n0 := 8) (n1 := 1536) (k0 := 8) (k1 := 128) 0 (128 * (2 * (c.val / 256))) _ _ _ r c r
            (inTile c) (Nat.zero_add _).symm (by show c.val = 128 * (2 * (c.val / 256)) + c.val % 128; omega))

theorem found_grow (arg6 : Memref sig .tc .vmem S8x1536 .f32)
    (P : List (View.Piece (Elt F) S8x1536 .f32) → Fin 12 → FVec F S8x128 .f32) (r : Fin 8) (i : Fin 12) (l : Fin 128)
    (t : ℕ) (ht : t ≤ 6) (hi : 2 * t ≤ i.val) : found arg6 (grow P t ht) i (ix2 r l) = Scalar.ofBits .f32 0xFF800000#32 := by
  unfold found
  rw [View.readCov_eq_canon']
  refine (congrArg (View.canon (grow P t ht)) (unit_idx (inbTile i) r l (by omega) (by omega))).trans ?_
  rw [show (⟨0 + r.val, by omega⟩ : Fin 8) = r from Fin.ext (Nat.zero_add _),
    canon_grow_of_le P r _ t ht (by show 256 * t ≤ 128 * i.val + l.val; omega)]
  pointwise [bottoms]

/-- Tile `i` of what was held before. -/
theorem held_apply (arg6 : Memref sig .tc .vmem S8x1536 .f32) (harg6 : arg6.IsWhole) (xs : Vec F S8x1536 .f32)
    (r : Fin 8) (i : Fin 12) (l : Fin 128) :
    held arg6 harg6 xs i (ix2 r l) = xs (ix2 r ⟨128 * i.val + l.val, by omega⟩) := by
  refine (harg6.readAt_unread xs _ _).trans (congrArg xs ?_)
  refine (unit_idx (inbTile i) r l (by omega) (by omega)).trans ?_
  rw [show (⟨0 + r.val, by omega⟩ : Fin 8) = r from Fin.ext (Nat.zero_add _)]

theorem held_tileOf (arg6 : Memref sig .tc .vmem S8x1536 .f32) (harg6 : arg6.IsWhole) (xs : Vec F S8x1536 .f32)
    (r : Fin 8) (c : Fin 1536) : held arg6 harg6 xs (tileOf c) (ix2 r (inTile c)) = xs (ix2 r c) := by
  rw [held_apply]
  exact congrArg (fun c => xs (ix2 r c)) (Fin.ext (show 128 * (c.val / 128) + c.val % 128 = c.val by omega))

theorem groups_apply (arg2 : Memref sig .tc .vmem S2048x384 .fp8e4m3) (harg2 : arg2.IsWhole)
    (x1 : Vec F S2048x384 .fp8e4m3) (j : Fin 4) (r : Fin 512) (k : Fin 384) :
    groups arg2 harg2 x1 j (ix2 r k) = x1 (ix2 ⟨512 * j.val + r.val, by omega⟩ k) := by
  refine (harg2.readAt_unread x1 _ _).trans (congrArg x1 ?_)
  refine (unit_idx (inbW j) r k (by omega) (by omega)).trans ?_
  rw [show (⟨0 + k.val, by omega⟩ : Fin 384) = k from Fin.ext (Nat.zero_add _)]

theorem tokens_apply (arg1 : Memref sig .tc .vmem S1536x384 .fp8e4m3) (harg1 : arg1.IsWhole)
    (x0 : Vec F S1536x384 .fp8e4m3) (t : Fin 6) (r : Fin 256) (k : Fin 384) :
    tokens arg1 harg1 x0 t (ix2 r k) = x0 (ix2 ⟨256 * t.val + r.val, by omega⟩ k) := by
  refine (harg1.readAt_unread x0 _ _).trans (congrArg x0 ?_)
  refine (unit_idx (inbX t) r k (by omega) (by omega)).trans ?_
  rw [show (⟨0 + k.val, by omega⟩ : Fin 384) = k from Fin.ext (Nat.zero_add _)]

theorem rinvs_apply (arg5 : Memref sig .tc .vmem S2048x128 .f32) (w : Fin 4 → Vec F S512x384 .fp8e4m3) (n : Fin 256)
    (r : Fin 8) (l : Fin 128) :
    rinvs arg5 w n (ix2 r l) = View.canon (fills w) (ix2 ⟨8 * n.val + r.val, by omega⟩ l) := by
  unfold rinvs
  rw [View.readCov_eq_canon']
  refine (congrArg (View.canon (fills w)) (unit_idx (inbChunk n) r l (by omega) (by omega))).trans ?_
  rw [show (⟨0 + l.val, by omega⟩ : Fin 128) = l from Fin.ext (Nat.zero_add _)]

theorem whole_eq (arg6 : Memref sig .tc .vmem S8x1536 .f32) (L : List (View.Piece (Elt F) S8x1536 .f32)) :
    whole arg6 L = View.canon L := by
  unfold whole
  rw [View.readCov_eq_canon']
  funext y
  refine congrArg (View.canon L) (funext (Fin.forall_fin_two.mpr ⟨Fin.ext ?_, Fin.ext ?_⟩))
  · show 0 + 1 * (y 0).val = (y 0).val
    omega
  · show 0 + 1 * (y 1).val = (y 1).val
    omega

end Cert.Step

end
-- ==== Proof.Top2.lean ====
/- The two greatest values of a family, as the kernel keeps them: a pair that absorbs one value at a time and that can be
   joined with another such pair in any order. The pairs form a commutative monoid, so the order in which the kernel visits
   the codes does not matter; and an order-reversing function carries the two greatest similarities to the two smallest
   distances as the reference finds them. -/
module

public import Idealize.ShloMosaic.Lib.Pointwise

@[expose] public section

noncomputable section

namespace Cert.Top2

/-- The greatest value and the second greatest, counted with multiplicity (`⊥` where there is none). -/
@[ext] structure Top2 where
  fst : EReal
  snd : EReal

namespace Top2

/-- Two families joined: the greatest of both; the second is the smaller of the two greatest or one of the seconds. -/
instance : Add Top2 := ⟨fun a b => ⟨a.fst ⊔ b.fst, (a.fst ⊓ b.fst) ⊔ (a.snd ⊔ b.snd)⟩⟩
instance : Zero Top2 := ⟨⟨⊥, ⊥⟩⟩

theorem add_fst (a b : Top2) : (a + b).fst = a.fst ⊔ b.fst := rfl
theorem add_snd (a b : Top2) : (a + b).snd = (a.fst ⊓ b.fst) ⊔ (a.snd ⊔ b.snd) := rfl
theorem zero_fst : (0 : Top2).fst = ⊥ := rfl
theorem zero_snd : (0 : Top2).snd = ⊥ := rfl

instance : AddCommMonoid Top2 where
  add_assoc a b c := by
    ext
    · simp only [add_fst, sup_assoc]
    · simp only [add_fst, add_snd, inf_sup_left, inf_sup_right]
      generalize a.fst ⊓ b.fst = x, a.fst ⊓ c.fst = y, b.fst ⊓ c.fst = z
      ac_rfl
  zero_add a := by ext <;> simp [add_fst, add_snd, zero_fst, zero_snd]
  add_zero a := by ext <;> simp [add_fst, add_snd, zero_fst, zero_snd]
  add_comm a b := by
    ext
    · simp only [add_fst, sup_comm]
    · simp only [add_snd, inf_comm, sup_comm]
  nsmul := nsmulRec

/-- The family of one value. -/
def single (v : EReal) : Top2 := ⟨v, ⊥⟩

theorem mk_eta (a : Top2) : (⟨a.fst, a.snd⟩ : Top2) = a := rfl

/-- How the kernel absorbs one value. -/
theorem add_single (a : Top2) (v : EReal) :
    a + single v = ⟨max a.fst v, max a.snd (min a.fst v)⟩ := by
  ext
  · rfl
  · show (a.fst ⊓ v) ⊔ (a.snd ⊔ ⊥) = a.snd ⊔ (a.fst ⊓ v)
    rw [sup_bot_eq, sup_comm]

variable {ι : Type*} [DecidableEq ι]

theorem sum_fst (S : Finset ι) (s : ι → EReal) : (∑ n ∈ S, single (s n)).fst = S.sup s := by
  induction S using Finset.induction_on with
  | empty => rfl
  | insert a S ha ih => rw [Finset.sum_insert ha, add_fst, ih, Finset.sup_insert]; rfl

theorem sum_snd_le (S : Finset ι) (s : ι → EReal) :
    (∑ n ∈ S, single (s n)).snd ≤ (∑ n ∈ S, single (s n)).fst := by
  induction S using Finset.induction_on with
  | empty => exact le_refl _
  | insert a S ha ih =>
    rw [Finset.sum_insert ha, add_fst, add_snd]
    refine sup_le (inf_le_left.trans le_sup_left) (sup_le ?_ (ih.trans le_sup_right))
    exact bot_le

/-- The second greatest is the greatest of the others, once one that is greatest is set aside. -/
theorem sum_snd (S : Finset ι) (s : ι → EReal) (n₀ : ι) (h₀ : n₀ ∈ S) (hmax : ∀ n ∈ S, s n ≤ s n₀) :
    (∑ n ∈ S, single (s n)).snd = (S.erase n₀).sup s := by
  rw [← Finset.add_sum_erase S _ h₀, add_snd]
  have h1 := sum_fst (S.erase n₀) s
  have h2 := sum_snd_le (S.erase n₀) s
  rw [h1] at h2 ⊢
  have h3 : (S.erase n₀).sup s ≤ s n₀ := Finset.sup_le fun n hn => hmax n (Finset.mem_of_mem_erase hn)
  show (s n₀ ⊓ _) ⊔ (⊥ ⊔ _) = _
  rw [bot_sup_eq, inf_eq_right.mpr h3, sup_eq_left.mpr h2]

/-- An order-reversing function carries the greatest value of a nonempty family to the smallest image. -/
theorem inf_antitone (S : Finset ι) (hS : S.Nonempty) (s : ι → EReal) (f : EReal → EReal) (hf : Antitone f) :
    S.inf (fun n => f (s n)) = f (S.sup s) := by
  obtain ⟨n₀, h₀, hmax⟩ := Finset.exists_max_image S s hS
  have hsup : S.sup s = s n₀ := le_antisymm (Finset.sup_le hmax) (Finset.le_sup h₀)
  rw [hsup]
  exact le_antisymm (Finset.inf_le h₀) (Finset.le_inf fun n hn => hf (hmax n hn))

/-- The reference's second distance: the smallest distance again where two codes reach it, else the smallest of the
    others. It is the image of the second greatest similarity. -/
theorem second_antitone (S : Finset ι) (hS : 2 ≤ S.card) (s : ι → EReal) (f : EReal → EReal) (hf : Antitone f) :
    (if 2 ≤ (S.filter fun n => f (s n) = f (∑ n ∈ S, single (s n)).fst).card then f (∑ n ∈ S, single (s n)).fst
      else S.inf fun n => if f (s n) = f (∑ n ∈ S, single (s n)).fst then ⊤ else f (s n))
      = f (∑ n ∈ S, single (s n)).snd := by
  have hne : S.Nonempty := Finset.card_pos.mp (by omega)
  obtain ⟨n₀, h₀, hmax⟩ := Finset.exists_max_image S s hne
  have hsup : (∑ n ∈ S, single (s n)).fst = s n₀ :=
    (sum_fst S s).trans (le_antisymm (Finset.sup_le hmax) (Finset.le_sup h₀))
  have hne' : (S.erase n₀).Nonempty := Finset.card_pos.mp (by rw [Finset.card_erase_of_mem h₀]; omega)
  rw [sum_snd S s n₀ h₀ hmax, hsup, ← inf_antitone _ hne' s f hf]
  split_ifs with hc
  · obtain ⟨a, ha, b, hb, hab⟩ := Finset.one_lt_card.mp (show 1 < _ from hc)
    rw [Finset.mem_filter] at ha hb
    have : ∃ n ∈ S.erase n₀, f (s n) = f (s n₀) := by
      by_cases h : a = n₀
      · exact ⟨b, Finset.mem_erase.mpr ⟨fun e => hab (h.trans e.symm), hb.1⟩, hb.2⟩
      · exact ⟨a, Finset.mem_erase.mpr ⟨h, ha.1⟩, ha.2⟩
    obtain ⟨n, hn, he⟩ := this
    refine le_antisymm (Finset.le_inf fun k hk => hf (hmax k (Finset.mem_of_mem_erase hk))) ?_
    rw [← he]; exact Finset.inf_le (f := fun n => f (s n)) hn
  · have huniq : ∀ n ∈ S, f (s n) = f (s n₀) → n = n₀ := by
      intro n hn he
      by_contra hnn
      apply hc
      have : 1 < (S.filter fun n => f (s n) = f (s n₀)).card :=
        Finset.one_lt_card.mpr ⟨n, Finset.mem_filter.mpr ⟨hn, he⟩, n₀, Finset.mem_filter.mpr ⟨h₀, rfl⟩, hnn⟩
      omega
    refine le_antisymm (Finset.le_inf fun n hn => ?_) (Finset.le_inf fun n hn => ?_)
    · refine (Finset.inf_le (Finset.mem_of_mem_erase hn)).trans ?_
      rw [if_neg]
      exact fun e => (Finset.mem_erase.mp hn).1 (huniq n (Finset.mem_of_mem_erase hn) e)
    · split_ifs with h
      · exact le_top
      · exact Finset.inf_le (f := fun n => f (s n)) (Finset.mem_erase.mpr ⟨fun e => h (e ▸ rfl), hn⟩)

end Top2

end Cert.Top2

end
-- ==== Proof.Block.lean ====
/- What one grid point computes over the extended reals: each entry's pair of maximum and second maximum takes in the
   scores of the point's codes that fall to its row. -/
module

public import proofs.«01_k».proof.Proof.Read
public import proofs.«01_k».proof.Proof.Top2

@[expose] public section

noncomputable section

namespace Cert.Step

open Idealize.ShloMosaic Cert.KernelIdeal Cert.KernelIdeal.Gen Cert.Top2 Cert.Top2.Top2

/-- A code's dot with a token over the code's norm. -/
def score (x c : Fin 384 → EReal) : EReal := (∑ k, c k * x k) * Ideal.rsqrt (∑ k, c k * c k)

/-- Sixteen copies of eight rows. -/
def copies (v : FVec Ideal S8x128 .f32) : FVec Ideal S128x128 .f32 :=
  concatenate S128x128 0 [⟨S8x128, v⟩, ⟨S8x128, v⟩, ⟨S8x128, v⟩, ⟨S8x128, v⟩, ⟨S8x128, v⟩, ⟨S8x128, v⟩,
    ⟨S8x128, v⟩, ⟨S8x128, v⟩, ⟨S8x128, v⟩, ⟨S8x128, v⟩, ⟨S8x128, v⟩, ⟨S8x128, v⟩, ⟨S8x128, v⟩, ⟨S8x128, v⟩,
    ⟨S8x128, v⟩, ⟨S8x128, v⟩]
    concatenates_S8x128_S8x128_S8x128_S8x128_S8x128_S8x128_S8x128_S8x128_S8x128_S8x128_S8x128_S8x128_S8x128_S8x128_S8x128_S8x128_S128x128_d0

theorem copies_apply (v : FVec Ideal S8x128 .f32) (r l : Fin 128) :
    copies v (ix2 r l) = v (ix2 ⟨r.val % 8, by omega⟩ l) :=
  concatenate_replicate_apply (t := S128x128) (s₁ := S8x128) 0 16 v _ rfl (ix2 r l) (ix2 ⟨r.val % 8, by omega⟩ l) rfl
    (Fin.forall_fin_two.mpr ⟨fun h => absurd rfl h, fun _ => rfl⟩)

theorem turned_apply (u : FVec Ideal S128x128 .f32) (r l : Fin 128) :
    transpose S128x128 [1, 0] u transposes_S128x128_p1_0_S128x128 (ix2 r l) = u (ix2 l r) := by
  pointwise

theorem rinvRow_apply (w : Vec Ideal S512x384 .fp8e4m3) (r : Fin 8) (c : Fin 512) :
    rinvRow w (ix2 r c) = Ideal.rsqrt (∑ k : Fin 384, w (ix2 c k) * w (ix2 c k)) := by
  pointwise [rinvRow]

theorem rinvBlk_apply (k : Fin 4) (w : Vec Ideal S512x384 .fp8e4m3) (r l : Fin 128) :
    rinvBlk k w (ix2 r l)
      = Ideal.rsqrt (∑ q : Fin 384, w (ix2 ⟨128 * k.val + r.val, by omega⟩ q) * w (ix2 ⟨128 * k.val + r.val, by omega⟩ q)) := by
  have h : rinvBlk k w = shapeCast S128x128 (transpose S128x128 [1, 0]
      (copies (extractStridedSlice S8x128 ![0, 128 * k.val] (rinvRow w) (slicesCol k)))
      transposes_S128x128_p1_0_S128x128) shapeCasts_S128x128_S128x128 := rfl
  rw [h, shapeCast_self, turned_apply, copies_apply]
  refine (extractStridedSlice_apply (s := S8x512) (t := S8x128) ![0, 128 * k.val] (rinvRow w) (slicesCol k) _
    (ix2 ⟨l.val % 8, by omega⟩ ⟨128 * k.val + r.val, by omega⟩) (Fin.forall_fin_two.mpr ⟨(Nat.zero_add _).symm, rfl⟩)).trans ?_
  exact rinvRow_apply w _ _

theorem dot_apply (w : Vec Ideal S512x384 .fp8e4m3) (x : Vec Ideal S256x384 .fp8e4m3) (r : Fin 512) (l : Fin 256) :
    dot w x (ix2 r l) = ∑ k : Fin 384, w (ix2 r k) * x (ix2 l k) := by
  pointwise [dot]

theorem chunk_apply (d : FVec Ideal S512x256 .f32) (n : Fin 64) (h : Fin 2) (v : Vec Ideal S8x128 .f32) (r : Fin 8)
    (l : Fin 128) : chunk d n h v (ix2 r l)
      = d (ix2 ⟨8 * n.val + r.val, by omega⟩ ⟨128 * h.val + l.val, by omega⟩) * v (ix2 r l) := by
  unfold chunk
  refine congrArg (· * v (ix2 r l)) ?_
  refine (extractStridedSlice_apply (s := S8x256) (t := S8x128) ![0, 128 * h.val] _ (slicesHalf h) (ix2 r l)
    (ix2 r ⟨128 * h.val + l.val, by omega⟩) (Fin.forall_fin_two.mpr ⟨(Nat.zero_add _).symm, rfl⟩)).trans ?_
  exact extractStridedSlice_apply (s := S512x256) (t := S8x256) ![8 * n.val, 0] d (slicesRow n) _
    (ix2 ⟨8 * n.val + r.val, by omega⟩ ⟨128 * h.val + l.val, by omega⟩)
    (Fin.forall_fin_two.mpr ⟨rfl, (Nat.zero_add _).symm⟩)

/-- Each row's factor is one over the norm of the row's code. -/
theorem rinvs_eq (arg5 : Memref sig .tc .vmem S2048x128 .f32) (arg2 : Memref sig .tc .vmem S2048x384 .fp8e4m3)
    (harg2 : arg2.IsWhole) (x1 : Vec Ideal S2048x384 .fp8e4m3) (n : Fin 256) (r : Fin 8) (l : Fin 128) :
    rinvs arg5 (groups arg2 harg2 x1) n (ix2 r l)
      = Ideal.rsqrt (∑ k : Fin 384, x1 (ix2 ⟨8 * n.val + r.val, by omega⟩ k) * x1 (ix2 ⟨8 * n.val + r.val, by omega⟩ k)) := by
  rw [rinvs_apply, canon_fills, rinvBlk_apply]
  refine congrArg Ideal.rsqrt (Finset.sum_congr rfl fun k _ => ?_)
  rw [groups_apply]
  have e : ∀ (i j : Fin 2048), i = j → x1 (ix2 i k) = x1 (ix2 j k) := fun i j h => h ▸ rfl
  rw [e _ ⟨8 * n.val + r.val, by omega⟩ (Fin.ext (by
    show 512 * ((8 * n.val + r.val) / 128 / 4) + (128 * ((8 * n.val + r.val) / 128 % 4) + (8 * n.val + r.val) % 128) = _
    dsimp only
    omega))]

/-- Chunk `n` of tile `i`, at row `r` and token `l` of the tile, is the score of code `8n + r` for the token. -/
theorem tiles_apply (arg1 : Memref sig .tc .vmem S1536x384 .fp8e4m3) (harg1 : arg1.IsWhole)
    (arg2 : Memref sig .tc .vmem S2048x384 .fp8e4m3) (harg2 : arg2.IsWhole)
    (arg5 : Memref sig .tc .vmem S2048x128 .f32) (x0 : Vec Ideal S1536x384 .fp8e4m3) (x1 : Vec Ideal S2048x384 .fp8e4m3)
    (i : Fin 12) (n : Fin 256) (r : Fin 8) (l : Fin 128) :
    tiles arg1 harg1 arg2 harg2 arg5 x0 x1 i n (ix2 r l)
      = score (fun k => x0 (ix2 ⟨128 * i.val + l.val, by omega⟩ k)) (fun k => x1 (ix2 ⟨8 * n.val + r.val, by omega⟩ k)) := by
  unfold tiles tile
  rw [chunk_apply, dot_apply, rinvs_eq]
  refine congrArg (· * _) (Finset.sum_congr rfl fun k _ => ?_)
  rw [groups_apply, tokens_apply]
  have e : ∀ (i j : Fin 2048), i = j → x1 (ix2 i k) = x1 (ix2 j k) := fun i j h => h ▸ rfl
  have e' : ∀ (i j : Fin 1536), i = j → x0 (ix2 i k) = x0 (ix2 j k) := fun i j h => h ▸ rfl
  rw [e _ ⟨8 * n.val + r.val, by omega⟩ (Fin.ext (by
    show 512 * (n.val / 64) + (8 * (n.val % 64) + r.val) = 8 * n.val + r.val
    omega)), e' _ ⟨128 * i.val + l.val, by omega⟩ (Fin.ext (by
    show 256 * (i.val / 2) + (128 * (i.val % 2) + l.val) = 128 * i.val + l.val
    omega))]

/-- The two loops, as one sum of pairs. -/
theorem acc_eq (v : Fin 256 → FVec Ideal S8x128 .f32) (m s : FVec Ideal S8x128 .f32) (y : S8x128.Idx) :
    ∀ (j : ℕ) (hj : j ≤ 256), (⟨acc1 v m j hj y, acc2 v m s j hj y⟩ : Top2)
      = ⟨m y, s y⟩ + ∑ n : Fin j, single (v ⟨n.val, by omega⟩ y) := by
  intro j
  induction j with
  | zero =>
    intro hj
    rw [Finset.univ_eq_empty, Finset.sum_empty, add_zero]
    rfl
  | succ j ih =>
    intro hj
    rw [Fin.sum_univ_castSucc, ← add_assoc]
    have := ih (by omega)
    simp only [Fin.val_castSucc, Fin.val_last]
    rw [← this, add_single]
    rfl

end Cert.Step

end
-- ==== Proof.Blocks.lean ====
/- What the windows of the inputs hold at a grid point: the first holds every token, the second the point's 2048 codes. -/
module

public import proofs.«01_k».proof.Proof.Gen.KernelIdeal.Value
public import proofs.«01_k».proof.Proof.Block

@[expose] public section

noncomputable section

namespace Cert.Step

open Idealize.ShloMosaic Idealize.ShloMosaic.TcCoe Cert.KernelIdeal Cert.KernelIdeal.Gen

variable {F : FTy → Type} [FloatOps F] (m : (ℓ : Loc nD τ sig) → Buf (Elt F) ℓ)

theorem index_tokens : ∀ t : Fin cfg0.N, win0_0.index t (0 : Fin 2) = 0 ∧ win0_0.index t (1 : Fin 2) = 0 :=
  (by decide +kernel : ∀ t : Fin grid0.N, _)

theorem index_codes : ∀ t : Fin cfg0.N, win0_1.index t (0 : Fin 2) = t.val ∧ win0_1.index t (1 : Fin 2) = 0 :=
  (by decide +kernel : ∀ t : Fin grid0.N, _)

theorem iblk_tokens (c : Dev nD) (t : Fin cfg0.N) (p : Fin 1536) (k : Fin 384) :
    iblk m c 0 t (ix2 p k) = V m c main_v0 (ix2 p k) := by
  refine congrArg (V m c main_v0) (funext fun a => Fin.ext ?_)
  match a with
  | 0 =>
    show win0_0.index t (0 : Fin 2) * 1536 + 1 * p.val = p.val
    rw [(index_tokens t).1]
    omega
  | 1 =>
    show win0_0.index t (1 : Fin 2) * 384 + 1 * k.val = k.val
    rw [(index_tokens t).2]
    omega

theorem iblk_codes (c : Dev nD) (t : Fin cfg0.N) (q : Fin 2048) (k : Fin 384) :
    iblk m c 1 t (ix2 q k)
      = m ((c : Thread nD τ).loc main_arg1) (ix2 ⟨2048 * t.val + q.val, by
          have := lt_of_lt_of_eq t.isLt (show cfg0.N = 8 from N_0)
          omega⟩ k) := by
  rw [← V_main_arg1 m c]
  refine congrArg (V m c main_arg1) (funext fun a => Fin.ext ?_)
  match a with
  | 0 =>
    show win0_1.index t (0 : Fin 2) * 2048 + 1 * q.val = 2048 * t.val + q.val
    rw [(index_codes t).1]
    omega
  | 1 =>
    show win0_1.index t (1 : Fin 2) * 384 + 1 * k.val = k.val
    rw [(index_codes t).2]
    omega

theorem V_main_v0 (c : Dev nD) :
    V m c main_v0 = shapeCast S1536x384 (m ((c : Thread nD τ).loc main_arg0)) shapeCasts_S6x256x384_S1536x384 := by
  rfl

end Cert.Step

end
-- ==== Proof.Point.lean ====
/- One grid point, read off its stores: in every entry of the two arrays of maxima and second maxima the pair takes in
   the scores of the point's codes in the entry's row. -/
module

public import proofs.«01_k».proof.Proof.Block

@[expose] public section

noncomputable section

namespace Cert.Step

open Idealize.ShloMosaic Cert.KernelIdeal Cert.KernelIdeal.Gen Cert.Top2 Cert.Top2.Top2

theorem bottom_eq : Ideal.ofBits .f32 0xFF800000#32 = (⊥ : EReal) := by
  simp [Ideal.ofBits, Ideal.ieee]

/-- The scores of a point's codes in row `r` for token `col`, as a sum of pairs. -/
def taken (x0 : Vec Ideal S1536x384 .fp8e4m3) (x1 : Vec Ideal S2048x384 .fp8e4m3) (r : Fin 8) (col : Fin 1536) : Top2 :=
  ∑ n : Fin 256, single (score (fun k => x0 (ix2 col k)) (fun k => x1 (ix2 ⟨8 * n.val + r.val, by omega⟩ k)))

/-- What is stored, from what was loaded. -/
theorem stored_pair (arg1 : Memref sig .tc .vmem S1536x384 .fp8e4m3) (harg1 : arg1.IsWhole)
    (arg2 : Memref sig .tc .vmem S2048x384 .fp8e4m3) (harg2 : arg2.IsWhole)
    (arg5 : Memref sig .tc .vmem S2048x128 .f32) (x0 : Vec Ideal S1536x384 .fp8e4m3) (x1 : Vec Ideal S2048x384 .fp8e4m3)
    (m s : Fin 12 → Vec Ideal S8x128 .f32) (r : Fin 8) (col : Fin 1536) :
    (⟨new1 (tiles arg1 harg1 arg2 harg2 arg5 x0 x1) m (tileOf col) (ix2 r (inTile col)),
      new2 (tiles arg1 harg1 arg2 harg2 arg5 x0 x1) m s (tileOf col) (ix2 r (inTile col))⟩ : Top2)
      = ⟨m (tileOf col) (ix2 r (inTile col)), s (tileOf col) (ix2 r (inTile col))⟩ + taken x0 x1 r col := by
  unfold new1 new2
  rw [shapeCast_self, shapeCast_self, acc_eq]
  refine congrArg _ (Finset.sum_congr rfl fun n _ => ?_)
  rw [tiles_apply]
  have e : ∀ (i j : Fin 1536), i = j → score (fun k => x0 (ix2 i k)) (fun k => x1 (ix2 ⟨8 * n.val + r.val, by omega⟩ k))
      = score (fun k => x0 (ix2 j k)) (fun k => x1 (ix2 ⟨8 * n.val + r.val, by omega⟩ k)) := fun i j h => h ▸ rfl
  exact congrArg single (e _ col (Fin.ext (show 128 * (col.val / 128) + col.val % 128 = col.val by omega)))

/-- A later point's stores, over the contents it found. -/
theorem kept_pair (arg1 : Memref sig .tc .vmem S1536x384 .fp8e4m3) (harg1 : arg1.IsWhole)
    (arg2 : Memref sig .tc .vmem S2048x384 .fp8e4m3) (harg2 : arg2.IsWhole)
    (arg5 : Memref sig .tc .vmem S2048x128 .f32) (arg6 : Memref sig .tc .vmem S8x1536 .f32) (harg6 : arg6.IsWhole)
    (arg7 : Memref sig .tc .vmem S8x1536 .f32) (harg7 : arg7.IsWhole) (x0 : Vec Ideal S1536x384 .fp8e4m3)
    (x1 : Vec Ideal S2048x384 .fp8e4m3) (xs1 xs2 : Vec Ideal S8x1536 .f32) (r : Fin 8) (col : Fin 1536) :
    (⟨View.canon (stores1 (tiles arg1 harg1 arg2 harg2 arg5 x0 x1) (held arg6 harg6 xs1)) (ix2 r col),
      View.canon (stores2 (tiles arg1 harg1 arg2 harg2 arg5 x0 x1) (held arg6 harg6 xs1) (held arg7 harg7 xs2))
        (ix2 r col)⟩ : Top2)
      = ⟨xs1 (ix2 r col), xs2 (ix2 r col)⟩ + taken x0 x1 r col := by
  unfold stores1 stores2
  rw [canon_tiles, canon_tiles, stored_pair, held_tileOf, held_tileOf]

theorem point_B (c : Dev nD) (i : grid0.Coords) (arg1 : Memref sig .tc .vmem S1536x384 .fp8e4m3) (harg1 : arg1.IsWhole)
    (arg2 : Memref sig .tc .vmem S2048x384 .fp8e4m3) (harg2 : arg2.IsWhole) (arg3 : Memref sig .tc .vmem S6x256 .f32)
    (harg3 : arg3.IsWhole) (arg4 : Memref sig .tc .vmem S6x256 .f32) (harg4 : arg4.IsWhole)
    (arg5 : Memref sig .tc .vmem S2048x128 .f32) (harg5 : arg5.IsWhole) (arg6 : Memref sig .tc .vmem S8x1536 .f32)
    (harg6 : arg6.IsWhole) (arg7 : Memref sig .tc .vmem S8x1536 .f32) (harg7 : arg7.IsWhole)
    (hc0 : ¬cond0_0 i) (hc1 : ¬cond0_1 i) (x0 : Vec Ideal S1536x384 .fp8e4m3) (x1 : Vec Ideal S2048x384 .fp8e4m3)
    (xs1 xs2 : Vec Ideal S8x1536 .f32) (r : Fin 8) (col : Fin 1536) :
    (⟨sout0_B_1 c i arg1 harg1 arg2 harg2 arg3 harg3 arg4 harg4 arg5 harg5 arg6 harg6 arg7 harg7 hc0
        hc1 x0 x1 xs1 xs2 (ix2 r col),
      sout0_B_2 c i arg1 harg1 arg2 harg2 arg3 harg3 arg4 harg4 arg5 harg5 arg6 harg6 arg7 harg7 hc0
        hc1 x0 x1 xs1 xs2 (ix2 r col)⟩ : Top2)
      = ⟨xs1 (ix2 r col), xs2 (ix2 r col)⟩ + taken x0 x1 r col := by
  have s1 := stores1_B (F := Ideal) c i arg1 harg1 arg2 harg2 arg3 harg3 arg4 harg4 arg5 harg5 arg6 harg6 arg7 harg7 hc0 hc1 x0 x1 xs1 xs2
  have s2 := stores2_B (F := Ideal) c i arg1 harg1 arg2 harg2 arg3 harg3 arg4 harg4 arg5 harg5 arg6 harg6 arg7 harg7 hc0 hc1 x0 x1 xs1 xs2
  have e1 := (View.read_writes_junk_eq_canon (Val := Elt Ideal) VS0_1 _).trans (congrArg (fun L => View.canon L) s1)
  have e2 := (View.read_writes_junk_eq_canon (Val := Elt Ideal) VS0_2 _).trans (congrArg (fun L => View.canon L) s2)
  unfold sout0_B_1 sout0_B_2
  rw [e1, e2]
  exact kept_pair arg1 harg1 arg2 harg2 arg5 arg6 harg6 arg7 harg7 x0 x1 xs1 xs2 r col

theorem point_C (c : Dev nD) (i : grid0.Coords) (arg1 : Memref sig .tc .vmem S1536x384 .fp8e4m3) (harg1 : arg1.IsWhole)
    (arg2 : Memref sig .tc .vmem S2048x384 .fp8e4m3) (harg2 : arg2.IsWhole) (arg3 : Memref sig .tc .vmem S6x256 .f32)
    (harg3 : arg3.IsWhole) (arg4 : Memref sig .tc .vmem S6x256 .f32) (harg4 : arg4.IsWhole)
    (arg5 : Memref sig .tc .vmem S2048x128 .f32) (harg5 : arg5.IsWhole) (arg6 : Memref sig .tc .vmem S8x1536 .f32)
    (harg6 : arg6.IsWhole) (arg7 : Memref sig .tc .vmem S8x1536 .f32) (harg7 : arg7.IsWhole)
    (hc0 : ¬cond0_0 i) (hc1 : cond0_1 i) (x0 : Vec Ideal S1536x384 .fp8e4m3) (x1 : Vec Ideal S2048x384 .fp8e4m3)
    (xs1 xs2 : Vec Ideal S8x1536 .f32) (r : Fin 8) (col : Fin 1536) :
    (⟨sout0_C_1 c i arg1 harg1 arg2 harg2 arg3 harg3 arg4 harg4 arg5 harg5 arg6 harg6 arg7 harg7 hc0
        hc1 x0 x1 xs1 xs2 (ix2 r col),
      sout0_C_2 c i arg1 harg1 arg2 harg2 arg3 harg3 arg4 harg4 arg5 harg5 arg6 harg6 arg7 harg7 hc0
        hc1 x0 x1 xs1 xs2 (ix2 r col)⟩ : Top2)
      = ⟨xs1 (ix2 r col), xs2 (ix2 r col)⟩ + taken x0 x1 r col := by
  have s1 := stores1_C (F := Ideal) c i arg1 harg1 arg2 harg2 arg3 harg3 arg4 harg4 arg5 harg5 arg6 harg6 arg7 harg7 hc0 hc1 x0 x1 xs1 xs2
  have s2 := stores2_C (F := Ideal) c i arg1 harg1 arg2 harg2 arg3 harg3 arg4 harg4 arg5 harg5 arg6 harg6 arg7 harg7 hc0 hc1 x0 x1 xs1 xs2
  have e1 := (View.read_writes_junk_eq_canon (Val := Elt Ideal) VS0_1 _).trans (congrArg (fun L => View.canon L) s1)
  have e2 := (View.read_writes_junk_eq_canon (Val := Elt Ideal) VS0_2 _).trans (congrArg (fun L => View.canon L) s2)
  unfold sout0_C_1 sout0_C_2
  rw [e1, e2]
  exact kept_pair arg1 harg1 arg2 harg2 arg5 arg6 harg6 arg7 harg7 x0 x1 xs1 xs2 r col

theorem point_A (c : Dev nD) (i : grid0.Coords) (arg1 : Memref sig .tc .vmem S1536x384 .fp8e4m3) (harg1 : arg1.IsWhole)
    (arg2 : Memref sig .tc .vmem S2048x384 .fp8e4m3) (harg2 : arg2.IsWhole) (arg3 : Memref sig .tc .vmem S6x256 .f32)
    (harg3 : arg3.IsWhole) (arg4 : Memref sig .tc .vmem S6x256 .f32) (harg4 : arg4.IsWhole)
    (arg5 : Memref sig .tc .vmem S2048x128 .f32) (harg5 : arg5.IsWhole) (arg6 : Memref sig .tc .vmem S8x1536 .f32)
    (harg6 : arg6.IsWhole) (arg7 : Memref sig .tc .vmem S8x1536 .f32) (harg7 : arg7.IsWhole)
    (hc0 : cond0_0 i) (hc1 : ¬cond0_1 i) (x0 : Vec Ideal S1536x384 .fp8e4m3) (x1 : Vec Ideal S2048x384 .fp8e4m3)
    (r : Fin 8) (col : Fin 1536) :
    (⟨sout0_A_1 c i arg1 harg1 arg2 harg2 arg3 harg3 arg4 harg4 arg5 harg5 arg6 harg6 arg7 harg7 hc0
        hc1 x0 x1 (ix2 r col),
      sout0_A_2 c i arg1 harg1 arg2 harg2 arg3 harg3 arg4 harg4 arg5 harg5 arg6 harg6 arg7 harg7 hc0
        hc1 x0 x1 (ix2 r col)⟩ : Top2)
      = taken x0 x1 r col := by
  have s1 := stores1_A (F := Ideal) c i arg1 harg1 arg2 harg2 arg3 harg3 arg4 harg4 arg5 harg5 arg6 harg6 arg7 harg7 hc0 hc1 x0 x1
  have s2 := stores2_A (F := Ideal) c i arg1 harg1 arg2 harg2 arg3 harg3 arg4 harg4 arg5 harg5 arg6 harg6 arg7 harg7 hc0 hc1 x0 x1
  have e1 := (View.read_writes_junk_eq_canon (Val := Elt Ideal) VS0_1 _).trans (congrArg (fun L => View.canon L) s1)
  have e2 := (View.read_writes_junk_eq_canon (Val := Elt Ideal) VS0_2 _).trans (congrArg (fun L => View.canon L) s2)
  unfold sout0_A_1 sout0_A_2
  rw [e1, e2]
  rw [canon_grow_of_lt _ r col 6 (le_refl 6) (by omega), canon_grow_of_lt _ r col 6 (le_refl 6) (by omega)]
  have h1 := fun m s => stored_pair arg1 harg1 arg2 harg2 arg5 x0 x1 m s r col
  have hd : 2 * (col.val / 256) ≤ (tileOf col).val := by
    show 2 * (col.val / 256) ≤ col.val / 128
    omega
  have e : (tileOf col).val / 2 = col.val / 256 := by
    show col.val / 128 / 2 = col.val / 256
    omega
  simp only [e]
  rw [h1, found_grow arg6 _ r (tileOf col) (inTile col) _ (by omega) hd,
    found_grow arg7 _ r (tileOf col) (inTile col) _ (by omega) hd]
  have z : (⟨Scalar.ofBits (F := Ideal) .f32 0xFF800000#32, Scalar.ofBits (F := Ideal) .f32 0xFF800000#32⟩ : Top2) = 0 := by
    show (⟨Ideal.ofBits .f32 0xFF800000#32, Ideal.ofBits .f32 0xFF800000#32⟩ : Top2) = 0
    rw [bottom_eq]
    rfl
  exact (congrArg (· + taken x0 x1 r col) z).trans (zero_add _)

end Cert.Step

end
-- ==== Proof.Cosine.lean ====
/- One token against one code, over the extended reals: the reference's distance is an order-reversing function of the
   similarity the kernel ranks the codes by, at every pair of operands (infinite entries and zero rows included). -/
module

public import Idealize.ShloMosaic.Lib.Pointwise

@[expose] public section

noncomputable section

namespace Cert.Cosine

open Idealize.ShloMosaic

/-- The number the literal `2.0` denotes. -/
abbrev two : EReal := ((2 : ℝ) : EReal)

/-- The distance as a function of the similarity scaled by the code's norm, at a token of norm `r`. -/
def dist (r s : EReal) : EReal := two - two * Ideal.div s r

theorem mul_self_nonneg (x : EReal) : 0 ≤ x * x := by
  induction x with
  | bot => simp
  | top => simp
  | coe r => exact_mod_cast _root_.mul_self_nonneg r

variable {ι : Type*} [Fintype ι]

theorem coe_sum (f : ι → ℝ) : ((∑ k, f k : ℝ) : EReal) = ∑ k, (f k : EReal) :=
  map_sum (⟨⟨Real.toEReal, rfl⟩, EReal.coe_add⟩ : ℝ →+ EReal) f Finset.univ

theorem sumsq_nonneg (x : ι → EReal) : 0 ≤ ∑ k, x k * x k :=
  Finset.sum_nonneg fun k _ => mul_self_nonneg (x k)

/-- A sum of squares that is zero has only zero terms. -/
theorem eq_zero_of_sumsq (x : ι → EReal) (h : ∑ k, x k * x k = 0) (k : ι) : x k = 0 := by
  have h1 := (Finset.sum_eq_zero_iff_of_nonneg fun k _ => mul_self_nonneg (x k)).mp h k (Finset.mem_univ k)
  exact (mul_self_eq_zero).mp h1

/-- A sum of squares that is finite has only finite terms. -/
theorem finite_of_sumsq (x : ι → EReal) (h : ∑ k, x k * x k ≠ ⊤) (k : ι) : ∃ r : ℝ, x k = (r : EReal) := by
  have h1 : x k * x k ≤ ∑ k, x k * x k :=
    Finset.single_le_sum (f := fun k => x k * x k) (fun k _ => mul_self_nonneg (x k)) (Finset.mem_univ k)
  have h2 : x k * x k ≠ ⊤ := fun e => h (top_le_iff.mp (e ▸ h1))
  induction hx : x k with
  | bot => rw [hx] at h2; exact absurd (by simp) h2
  | top => rw [hx] at h2; exact absurd (by simp) h2
  | coe r => exact ⟨r, rfl⟩

theorem sqrt_coe {r : ℝ} (h : 0 ≤ r) : Ideal.sqrt (r : EReal) = (Real.sqrt r : EReal) := by
  show (if r < 0 then ⊥ else _) = _
  rw [if_neg (not_lt.mpr h)]

theorem sqrt_nonneg {p : EReal} (h : 0 ≤ p) : 0 ≤ Ideal.sqrt p := by
  induction p with
  | bot => simp at h
  | top => exact le_top
  | coe r => rw [sqrt_coe (by exact_mod_cast h)]; exact_mod_cast Real.sqrt_nonneg r

/-- The distance falls as the similarity rises. -/
theorem dist_antitone {r : EReal} (h : 0 ≤ r) (h0 : r ≠ 0) : Antitone (dist r) := by
  intro s s' hs
  unfold dist Ideal.div
  rw [if_neg h0, if_neg h0]
  have h1 : s * r⁻¹ ≤ s' * r⁻¹ := mul_le_mul_of_nonneg_right hs (EReal.inv_nonneg_of_nonneg h)
  exact EReal.sub_le_sub le_rfl (mul_le_mul_of_nonneg_left h1 (by norm_num [two]))

/-- THE DISTANCE OF ONE PAIR: with `p`, `q` the squared norms and `d` the inner product, the reference's distance is the
    kernel's function of the kernel's similarity. -/
theorem dist_pair (x c : ι → EReal) (h0 : Ideal.sqrt (∑ k, x k * x k) ≠ 0) :
    (if Ideal.sqrt (∑ k, x k * x k) = 0 ∨ Ideal.sqrt (∑ k, c k * c k) = 0 then two
      else two - Ideal.div (two * ∑ k, x k * c k) (Ideal.sqrt (∑ k, x k * x k) * Ideal.sqrt (∑ k, c k * c k)))
      = dist (Ideal.sqrt (∑ k, x k * x k)) ((∑ k, c k * x k) * Ideal.rsqrt (∑ k, c k * c k)) := by
  have hp := sumsq_nonneg x
  have hq := sumsq_nonneg c
  have hcomm : ∑ k, c k * x k = ∑ k, x k * c k := Finset.sum_congr rfl fun k _ => mul_comm _ _
  rw [hcomm]
  have hr : 0 < Ideal.sqrt (∑ k, x k * x k) := lt_of_le_of_ne (sqrt_nonneg hp) (Ne.symm h0)
  by_cases hq0 : ∑ k, c k * c k = 0
  · -- a code of zeros: similarity zero, distance two
    have hd : ∑ k, x k * c k = 0 := Finset.sum_eq_zero fun k _ => by rw [eq_zero_of_sumsq c hq0 k, mul_zero]
    have hs : Ideal.sqrt (0 : EReal) = 0 := by
      have := sqrt_coe (le_refl (0 : ℝ)); simpa using this
    rw [hd, hq0, if_pos (Or.inr hs), zero_mul]
    unfold dist Ideal.div
    rw [if_neg h0, zero_mul, mul_zero, sub_zero]
  by_cases hqt : ∑ k, c k * c k = ⊤
  · -- a code with an infinite entry
    rw [hqt]
    have hs : Ideal.sqrt ⊤ = ⊤ := rfl
    have hrs : Ideal.rsqrt ⊤ = 0 := rfl
    rw [hs, hrs, mul_zero, if_neg (by rintro (h | h); exacts [h0 h, by simp at h]), EReal.mul_top_of_pos hr]
    unfold dist Ideal.div
    rw [if_neg h0, zero_mul, mul_zero, if_neg (by simp), EReal.inv_top, mul_zero]
  lift (∑ k, c k * c k) to ℝ using ⟨hqt, fun e => by rw [e] at hq; simp at hq⟩ with q hqq
  have hq1 : 0 < q := lt_of_le_of_ne (by exact_mod_cast hq) (fun e => hq0 (by rw [← e]; rfl))
  have hsq : 0 < Real.sqrt q := Real.sqrt_pos.mpr hq1
  have hrs : Ideal.rsqrt (q : EReal) = ((Real.sqrt q)⁻¹ : ℝ) := by
    show (if q < 0 then ⊥ else if q = 0 then ⊤ else _) = _
    rw [if_neg (not_lt.mpr hq1.le), if_neg hq1.ne']
  rw [sqrt_coe hq1.le, hrs]
  have hsq0 : ((Real.sqrt q : ℝ) : EReal) ≠ 0 := by exact_mod_cast hsq.ne'
  rw [if_neg (by rintro (h | h); exacts [h0 h, hsq0 h])]
  by_cases hpt : ∑ k, x k * x k = ⊤
  · -- a token with an infinite entry
    rw [hpt]
    have hs : Ideal.sqrt ⊤ = ⊤ := rfl
    rw [hs, EReal.top_mul_of_pos (by exact_mod_cast hsq)]
    unfold dist Ideal.div
    rw [if_neg (by simp), if_neg (by simp), EReal.inv_top, mul_zero, mul_zero, mul_zero]
  -- both rows finite: real arithmetic
  choose xr hx using finite_of_sumsq x hpt
  have hct : ∑ k, c k * c k ≠ ⊤ := by rw [← hqq]; exact EReal.coe_ne_top q
  choose cr hc using finite_of_sumsq c hct
  have hd : ∑ k, x k * c k = ((∑ k, xr k * cr k : ℝ) : EReal) := by
    rw [coe_sum]; exact Finset.sum_congr rfl fun k _ => by rw [hx, hc, EReal.coe_mul]
  rw [hd]
  lift (∑ k, x k * x k) to ℝ using ⟨hpt, fun e => by rw [e] at hp; simp at hp⟩ with p
  have hp1 : 0 ≤ p := by exact_mod_cast hp
  rw [sqrt_coe hp1] at h0 hr ⊢
  have hr' : 0 < Real.sqrt p := by exact_mod_cast hr
  unfold dist
  rw [← EReal.coe_mul, ← EReal.coe_mul, Ideal.div_coe (by positivity), Ideal.div_coe hr'.ne', ← EReal.coe_mul]
  norm_cast
  field_simp

end Cert.Cosine

end
-- ==== Proof.Rows.lean ====
/- The last point's rows: the three turns bring the pairs of all eight rows into every row, and a token's distances
   come from its joined pair and its norm. -/
module

public import proofs.«01_k».proof.Proof.Point
public import proofs.«01_k».proof.Proof.Cosine
public import Idealize.ShloMosaic.Lib.KernelVsHost

@[expose] public section

noncomputable section

namespace Cert.Step

open Idealize.ShloMosaic Cert.KernelIdeal Cert.KernelIdeal.Gen Cert.Top2 Cert.Top2.Top2 Cert.Cosine

theorem turn_apply (k : ℕ) (hk : k ≤ 8) (v : FVec Ideal S8x1536 .f32) (r : Fin 8) (col : Fin 1536) :
    turn (BitVec.ofNat 32 k) v (ix2 r col) = v (ix2 ⟨(r.val + 8 - k % 8) % 8, Nat.mod_lt _ (by decide)⟩ col) := by
  have e : (BitVec.ofNat 32 k).toNat = k := by
    rw [BitVec.toNat_ofNat]
    omega
  refine dynamicRotate_apply (s := S8x1536) 0 (BitVec.ofNat 32 k) v rotates_S8x1536_d0 (ix2 r col) _ fun b => ?_
  match b with
  | 0 =>
    rw [e]
    rfl
  | 1 => rfl

/-- A join adds the pair found `k` rows away. -/
theorem join_pair (k : ℕ) (hk : k ≤ 8) (m s : FVec Ideal S8x1536 .f32) (r : Fin 8) (col : Fin 1536) :
    (⟨join1 (BitVec.ofNat 32 k) m (ix2 r col), join2 (BitVec.ofNat 32 k) m s (ix2 r col)⟩ : Top2)
      = ⟨m (ix2 r col), s (ix2 r col)⟩
        + ⟨m (ix2 ⟨(r.val + 8 - k % 8) % 8, Nat.mod_lt _ (by decide)⟩ col),
            s (ix2 ⟨(r.val + 8 - k % 8) % 8, Nat.mod_lt _ (by decide)⟩ col)⟩ := by
  rw [← turn_apply k hk m r col, ← turn_apply k hk s r col]
  rfl

/-- After the three joins every row has the pairs of all. -/
theorem all_pair (m s : FVec Ideal S8x1536 .f32) (r : Fin 8) (col : Fin 1536) :
    (⟨all1 m (ix2 r col), all2 m s (ix2 r col)⟩ : Top2) = ∑ q : Fin 8, ⟨m (ix2 q col), s (ix2 q col)⟩ := by
  have h1 := join_pair 1 (by omega) (join1 2#32 (join1 4#32 m)) (join2 2#32 (join1 4#32 m) (join2 4#32 m s))
  have h2 := join_pair 2 (by omega) (join1 4#32 m) (join2 4#32 m s)
  have h4 := join_pair 4 (by omega) m s
  unfold all1 all2
  rw [h1, h2, h2, h4, h4, h4, h4]
  have b4 : ∀ r : Fin 8, (⟨(r.val + 8 - 4 % 8) % 8, Nat.mod_lt _ (by decide)⟩ : Fin 8) = r + 4 := by decide
  have b2 : ∀ r : Fin 8, (⟨(r.val + 8 - 2 % 8) % 8, Nat.mod_lt _ (by decide)⟩ : Fin 8) = r + 6 := by decide
  have b1 : ∀ r : Fin 8, (⟨(r.val + 8 - 1 % 8) % 8, Nat.mod_lt _ (by decide)⟩ : Fin 8) = r + 7 := by decide
  have g : ∀ p : Fin 8 → Top2, ((p r + p (r + 4)) + (p (r + 6) + p (r + 6 + 4)))
      + ((p (r + 7) + p (r + 7 + 4)) + (p (r + 7 + 6) + p (r + 7 + 6 + 4))) = ∑ q : Fin 8, p q := by
    intro p
    rw [Fin.sum_univ_eight]
    fin_cases r <;>
    · simp only [Fin.reduceFinMk, Fin.reduceAdd, Fin.isValue]
      abel
  simp only [b4, b2, b1]
  exact g fun q => ⟨m (ix2 q col), s (ix2 q col)⟩

/-- A token's norm. -/
def norm (x : Fin 384 → EReal) : EReal := Ideal.sqrt (∑ k, x k * x k)

theorem two_eq : Ideal.ofBits .f32 0x40000000#32 = two := by
  simp [Ideal.ofBits, Ideal.ieee, two]
  norm_cast
  norm_num

theorem zero_eq : Ideal.ofBits .f32 0x00000000#32 = (0 : EReal) := by
  simp [Ideal.ofBits, Ideal.ieee]

theorem norms_apply (x : Vec Ideal S256x384 .fp8e4m3) (r : Fin 8) (l : Fin 256) :
    norms x (ix2 r l) = norm (fun k => x (ix2 l k)) := by
  unfold norms norm
  rw [shapeCast_self]
  pointwise

/-- The distance a token's row holds for a scaled dot `s`. -/
def far (x : Fin 384 → EReal) (s : EReal) : EReal := if norm x = 0 then two else dist (norm x) s

theorem dists_apply (t : Fin 6) (m : FVec Ideal S8x1536 .f32) (x : Vec Ideal S256x384 .fp8e4m3) (r : Fin 8) (l : Fin 256) :
    dists t m x (ix2 r l) = far (fun k => x (ix2 l k)) (m (ix2 r ⟨256 * t.val + l.val, by omega⟩)) := by
  unfold dists
  pointwise
  rw [norms_apply, two_eq]
  rfl

end Cert.Step

end
-- ==== Proof.State.lean ====
/- The kernel's value: at every point the pairs of all codes met so far, row by row; at the last point the pairs of all
   16384 codes joined, and the two results from them. -/
module

public import proofs.«01_k».proof.Proof.Blocks
public import proofs.«01_k».proof.Proof.Rows

@[expose] public section

noncomputable section

namespace Cert.Step

open Idealize.ShloMosaic Idealize.ShloMosaic.TcCoe Cert.KernelIdeal Cert.KernelIdeal.Gen Cert.Top2 Cert.Top2.Top2 Cert.Cosine

variable (m : (ℓ : Loc nD τ sig) → Buf (Elt Ideal) ℓ)

/-- Token `p`, as the kernel is given it, and code `q`. -/
def token (c : Dev nD) (p : Fin 1536) (k : Fin 384) : EReal := V m c main_v0 (ix2 p k)
def code (c : Dev nD) (q : Fin 16384) (k : Fin 384) : EReal := m ((c : Thread nD τ).loc main_arg1) (ix2 q k)

/-- The score of code `q` for token `p`. -/
def mark (c : Dev nD) (p : Fin 1536) (q : Fin 16384) : EReal := score (token m c p) (code m c q)

/-- The codes of point `j` in row `r`. -/
theorem taken_iblk (c : Dev nD) (t : Fin cfg0.N) (r : Fin 8) (p : Fin 1536) :
    taken (iblk m c 0 t) (iblk m c 1 t) r p
      = ∑ n : Fin 256, single (mark m c p ⟨2048 * t.val + (8 * n.val + r.val), by
          have := lt_of_lt_of_eq t.isLt (show cfg0.N = 8 from N_0)
          omega⟩) := by
  unfold taken mark
  refine Finset.sum_congr rfl fun n _ => congrArg single ?_
  refine congrArg₂ score (funext fun k => ?_) (funext fun k => ?_)
  · exact iblk_tokens m c t p k
  · exact iblk_codes m c t _ k

/-- The pair an entry holds after point `n`. -/
def heldPair (c : Dev nD) (n : ℕ) (hn : n < cfg0.N) (r : Fin 8) (p : Fin 1536) : Top2 :=
  ⟨(outsAt0 m c n hn).2.2.1 (ix2 r p), (outsAt0 m c n hn).2.2.2 (ix2 r p)⟩

theorem heldPair_zero (c : Dev nD) (hn : 0 < cfg0.N) (r : Fin 8) (p : Fin 1536) :
    heldPair m c 0 hn r p = taken (iblk m c 0 ⟨0, hn⟩) (iblk m c 1 ⟨0, hn⟩) r p := by
  have e := outsAt0_A m c ⟨0, hn⟩ (Nat.zero_mod 8) (show ¬0 % 8 = 7 by decide)
  have e1 := congrArg (fun o => o.2.2.1 (ix2 r p)) e
  have e2 := congrArg (fun o => o.2.2.2 (ix2 r p)) e
  exact (congrArg₂ Top2.mk e1 e2).trans (point_A c (grid0.coords ⟨0, hn⟩) (ms0_0 ⟨0, hn⟩) (hs0_0 ⟨0, hn⟩) (ms0_1 ⟨0, hn⟩)
    (hs0_1 ⟨0, hn⟩) (ms0_2 ⟨0, hn⟩) (hs0_2 ⟨0, hn⟩) (ms0_3 ⟨0, hn⟩) (hs0_3 ⟨0, hn⟩) scM0_0
    (Memref.isWhole_whole _) scM0_1 (Memref.isWhole_whole _) scM0_2 (Memref.isWhole_whole _)
    ((hcond0_0 ⟨0, hn⟩).mpr (Nat.zero_mod 8)) (fun h => absurd ((hcond0_1 ⟨0, hn⟩).mp h) (show ¬0 % 8 = 7 by decide)) (iblk m c 0 ⟨0, hn⟩) (iblk m c 1 ⟨0, hn⟩) r p)

theorem heldPair_succ (c : Dev nD) (n : ℕ) (hn : n + 1 < cfg0.N) (h1 : ¬(n + 1) % 8 = 7) (r : Fin 8) (p : Fin 1536) :
    heldPair m c (n + 1) hn r p = heldPair m c n (Nat.lt_of_succ_lt hn) r p
      + taken (iblk m c 0 ⟨n + 1, hn⟩) (iblk m c 1 ⟨n + 1, hn⟩) r p := by
  have hN := lt_of_lt_of_eq hn (show cfg0.N = 8 from N_0)
  have e := outsAt0_B m c ⟨n + 1, hn⟩ (show ¬(n + 1) % 8 = 0 by omega) h1
  have e1 := congrArg (fun o => o.2.2.1 (ix2 r p)) e
  have e2 := congrArg (fun o => o.2.2.2 (ix2 r p)) e
  exact (congrArg₂ Top2.mk e1 e2).trans (point_B c (grid0.coords ⟨n + 1, hn⟩) (ms0_0 ⟨n + 1, hn⟩) (hs0_0 ⟨n + 1, hn⟩) (ms0_1 ⟨n + 1, hn⟩)
    (hs0_1 ⟨n + 1, hn⟩) (ms0_2 ⟨n + 1, hn⟩) (hs0_2 ⟨n + 1, hn⟩) (ms0_3 ⟨n + 1, hn⟩) (hs0_3 ⟨n + 1, hn⟩) scM0_0
    (Memref.isWhole_whole _) scM0_1 (Memref.isWhole_whole _) scM0_2 (Memref.isWhole_whole _)
    (fun h => absurd ((hcond0_0 ⟨n + 1, hn⟩).mp h) (show ¬(n + 1) % 8 = 0 by omega)) (fun h => h1 ((hcond0_1 ⟨n + 1, hn⟩).mp h)) (iblk m c 0 ⟨n + 1, hn⟩)
    (iblk m c 1 ⟨n + 1, hn⟩) (outsAt0 m c n (Nat.lt_of_succ_lt hn)).2.2.1 (outsAt0 m c n (Nat.lt_of_succ_lt hn)).2.2.2 r p)

/-- Before the last point: the codes of every point so far. -/
theorem heldPair_eq (c : Dev nD) (n : ℕ) (hn : n < cfg0.N) (h7 : n < 7) (r : Fin 8) (p : Fin 1536) :
    heldPair m c n hn r p
      = ∑ j : Fin (n + 1), taken (iblk m c 0 ⟨j.val, lt_of_le_of_lt (Nat.le_of_lt_succ j.isLt) hn⟩)
          (iblk m c 1 ⟨j.val, lt_of_le_of_lt (Nat.le_of_lt_succ j.isLt) hn⟩) r p := by
  induction n with
  | zero =>
    rw [heldPair_zero, Fin.sum_univ_one]
    rfl
  | succ n ih =>
    rw [heldPair_succ m c n hn (by omega), ih _ (by omega), Fin.sum_univ_castSucc (n := n + 1)]
    rfl

/-- The pair of all codes. -/
def total (c : Dev nD) (p : Fin 1536) : Top2 := ∑ q : Fin 16384, single (mark m c p q)

theorem lastLt : 7 < cfg0.N := lt_of_lt_of_eq (by decide) N_0.symm

/-- Row `r`, point `j` and place `n` name code `2048 j + 8 n + r`, each code once. -/
def place : Fin 8 × Fin 8 × Fin 256 ≃ Fin 16384 where
  toFun x := ⟨2048 * x.2.1.val + (8 * x.2.2.val + x.1.val), by
    have h1 := x.1.isLt
    have h2 := x.2.1.isLt
    have h3 := x.2.2.isLt
    omega⟩
  invFun q := (⟨q.val % 8, by omega⟩, ⟨q.val / 2048, by omega⟩, ⟨q.val % 2048 / 8, by omega⟩)
  left_inv := fun ⟨r, j, n⟩ => by
    refine Prod.ext (Fin.ext ?_) (Prod.ext (Fin.ext ?_) (Fin.ext ?_)) <;>
    · simp only
      omega
  right_inv q := Fin.ext (by
    simp only
    omega)

theorem sum_places (f : Fin 16384 → Top2) :
    (∑ r : Fin 8, ∑ j : Fin 8, ∑ n : Fin 256, f ⟨2048 * j.val + (8 * n.val + r.val), by omega⟩) = ∑ q, f q := by
  rw [← Fintype.sum_equiv place (fun x => f (place x)) f fun _ => rfl, Fintype.sum_prod_type]
  refine Finset.sum_congr rfl fun r _ => ?_
  rw [Fintype.sum_prod_type]
  rfl

/-- The eight rows after the last point hold every code once. -/
theorem total_eq (c : Dev nD) (p : Fin 1536) :
    (∑ r : Fin 8, (heldPair m c 6 (Nat.lt_of_succ_lt lastLt) r p
      + taken (iblk m c 0 ⟨7, lastLt⟩) (iblk m c 1 ⟨7, lastLt⟩) r p)) = total m c p := by
  have e : ∀ r : Fin 8, heldPair m c 6 (Nat.lt_of_succ_lt lastLt) r p
      + taken (iblk m c 0 ⟨7, lastLt⟩) (iblk m c 1 ⟨7, lastLt⟩) r p
      = ∑ j : Fin 8, ∑ n : Fin 256, single (mark m c p ⟨2048 * j.val + (8 * n.val + r.val), by omega⟩) := by
    intro r
    rw [heldPair_eq m c 6 _ (by omega), Fin.sum_univ_castSucc (n := 7)]
    refine congrArg₂ (· + ·) (Finset.sum_congr rfl fun j _ => ?_) ?_
    · exact taken_iblk m c _ r p
    · exact taken_iblk m c _ r p
  rw [Finset.sum_congr rfl fun r _ => e r]
  exact sum_places fun q => single (mark m c p q)

end Cert.Step

end
-- ==== Proof.LastPoint.lean ====
/- The two outputs of the last point, from the joined pairs of its tokens. -/
module

public import proofs.«01_k».proof.Proof.Rows

@[expose] public section

noncomputable section

namespace Cert.Step

open Idealize.ShloMosaic Cert.KernelIdeal Cert.KernelIdeal.Gen Cert.Top2 Cert.Top2.Top2

theorem row1_apply (m : FVec Ideal S8x1536 .f32) (x : Fin 6 → Vec Ideal S256x384 .fp8e4m3) (t : Fin 6) (l : Fin 256) :
    row1 m x t (ix2 0 l) = far (fun k => x t (ix2 l k)) (all1 m (ix2 0 ⟨256 * t.val + l.val, by omega⟩)) := by
  rw [← dists_apply]
  refine extractStridedSlice_apply _ _ _ _ _ fun b => ?_
  match b with
  | 0 => rfl
  | 1 => exact (Nat.zero_add _).symm

theorem row2_apply (m s : FVec Ideal S8x1536 .f32) (x : Fin 6 → Vec Ideal S256x384 .fp8e4m3) (t : Fin 6) (l : Fin 256) :
    row2 m s x t (ix2 0 l) = far (fun k => x t (ix2 l k)) (all2 m s (ix2 0 ⟨256 * t.val + l.val, by omega⟩))
      - far (fun k => x t (ix2 l k)) (all1 m (ix2 0 ⟨256 * t.val + l.val, by omega⟩)) := by
  rw [← dists_apply, ← dists_apply]
  refine (extractStridedSlice_apply _ _ _ _ (ix2 0 l) fun b => ?_).trans rfl
  match b with
  | 0 => rfl
  | 1 => exact (Nat.zero_add _).symm

/-- The pair of a token over all rows, after the point's stores. -/
theorem last_pair (arg1 : Memref sig .tc .vmem S1536x384 .fp8e4m3) (harg1 : arg1.IsWhole)
    (arg2 : Memref sig .tc .vmem S2048x384 .fp8e4m3) (harg2 : arg2.IsWhole)
    (arg5 : Memref sig .tc .vmem S2048x128 .f32) (arg6 : Memref sig .tc .vmem S8x1536 .f32) (harg6 : arg6.IsWhole)
    (arg7 : Memref sig .tc .vmem S8x1536 .f32) (harg7 : arg7.IsWhole) (x0 : Vec Ideal S1536x384 .fp8e4m3)
    (x1 : Vec Ideal S2048x384 .fp8e4m3) (xs1 xs2 : Vec Ideal S8x1536 .f32) (r : Fin 8) (p : Fin 1536) :
    (⟨all1 (whole arg6 (stores1 (tiles arg1 harg1 arg2 harg2 arg5 x0 x1) (held arg6 harg6 xs1))) (ix2 r p),
      all2 (whole arg6 (stores1 (tiles arg1 harg1 arg2 harg2 arg5 x0 x1) (held arg6 harg6 xs1)))
        (whole arg7 (stores2 (tiles arg1 harg1 arg2 harg2 arg5 x0 x1) (held arg6 harg6 xs1) (held arg7 harg7 xs2)))
        (ix2 r p)⟩ : Top2)
      = ∑ q : Fin 8, (⟨xs1 (ix2 q p), xs2 (ix2 q p)⟩ + taken x0 x1 q p) := by
  rw [all_pair, whole_eq, whole_eq]
  exact Finset.sum_congr rfl fun q _ => kept_pair arg1 harg1 arg2 harg2 arg5 arg6 harg6 arg7 harg7 x0 x1 xs1 xs2 q p

theorem out1_value (c : Dev nD) (i : grid0.Coords) (arg1 : Memref sig .tc .vmem S1536x384 .fp8e4m3) (harg1 : arg1.IsWhole)
    (arg2 : Memref sig .tc .vmem S2048x384 .fp8e4m3) (harg2 : arg2.IsWhole) (arg3 : Memref sig .tc .vmem S6x256 .f32)
    (harg3 : arg3.IsWhole) (arg4 : Memref sig .tc .vmem S6x256 .f32) (harg4 : arg4.IsWhole)
    (arg5 : Memref sig .tc .vmem S2048x128 .f32) (harg5 : arg5.IsWhole) (arg6 : Memref sig .tc .vmem S8x1536 .f32)
    (harg6 : arg6.IsWhole) (arg7 : Memref sig .tc .vmem S8x1536 .f32) (harg7 : arg7.IsWhole)
    (hc0 : ¬cond0_0 i) (hc1 : cond0_1 i) (x0 : Vec Ideal S1536x384 .fp8e4m3) (x1 : Vec Ideal S2048x384 .fp8e4m3)
    (xs1 xs2 : Vec Ideal S8x1536 .f32) (t : Fin 6) (l : Fin 256) :
    out0_C_2 c i arg1 harg1 arg2 harg2 arg3 harg3 arg4 harg4 arg5 harg5 arg6 harg6 arg7 harg7 hc0 hc1 x0 x1
      xs1 xs2 (ix2 t l)
      = far (fun k => x0 (ix2 ⟨256 * t.val + l.val, by omega⟩ k))
          (∑ q : Fin 8, (⟨xs1 (ix2 q ⟨256 * t.val + l.val, by omega⟩), xs2 (ix2 q ⟨256 * t.val + l.val, by omega⟩)⟩
            + taken x0 x1 q ⟨256 * t.val + l.val, by omega⟩)).fst := by
  have s1 := out1_C (F := Ideal) c i arg1 harg1 arg2 harg2 arg3 harg3 arg4 harg4 arg5 harg5 arg6 harg6 arg7 harg7 hc0 hc1 x0 x1 xs1 xs2
  have e1 := (View.read_writes_junk_eq_canon (Val := Elt Ideal) VO0_2 _).trans (congrArg (fun L => View.canon L) s1)
  unfold out0_C_2
  rw [e1, canon_rows, row1_apply,
    ← last_pair arg1 harg1 arg2 harg2 arg5 arg6 harg6 arg7 harg7 x0 x1 xs1 xs2 0 ⟨256 * t.val + l.val, by omega⟩]
  refine congrArg₂ far (funext fun k => ?_) rfl
  exact tokens_apply arg1 harg1 x0 t l k

theorem out2_value (c : Dev nD) (i : grid0.Coords) (arg1 : Memref sig .tc .vmem S1536x384 .fp8e4m3) (harg1 : arg1.IsWhole)
    (arg2 : Memref sig .tc .vmem S2048x384 .fp8e4m3) (harg2 : arg2.IsWhole) (arg3 : Memref sig .tc .vmem S6x256 .f32)
    (harg3 : arg3.IsWhole) (arg4 : Memref sig .tc .vmem S6x256 .f32) (harg4 : arg4.IsWhole)
    (arg5 : Memref sig .tc .vmem S2048x128 .f32) (harg5 : arg5.IsWhole) (arg6 : Memref sig .tc .vmem S8x1536 .f32)
    (harg6 : arg6.IsWhole) (arg7 : Memref sig .tc .vmem S8x1536 .f32) (harg7 : arg7.IsWhole)
    (hc0 : ¬cond0_0 i) (hc1 : cond0_1 i) (x0 : Vec Ideal S1536x384 .fp8e4m3) (x1 : Vec Ideal S2048x384 .fp8e4m3)
    (xs1 xs2 : Vec Ideal S8x1536 .f32) (t : Fin 6) (l : Fin 256) :
    out0_C_3 c i arg1 harg1 arg2 harg2 arg3 harg3 arg4 harg4 arg5 harg5 arg6 harg6 arg7 harg7 hc0 hc1 x0 x1
      xs1 xs2 (ix2 t l)
      = far (fun k => x0 (ix2 ⟨256 * t.val + l.val, by omega⟩ k))
          (∑ q : Fin 8, (⟨xs1 (ix2 q ⟨256 * t.val + l.val, by omega⟩), xs2 (ix2 q ⟨256 * t.val + l.val, by omega⟩)⟩
            + taken x0 x1 q ⟨256 * t.val + l.val, by omega⟩)).snd
        - far (fun k => x0 (ix2 ⟨256 * t.val + l.val, by omega⟩ k))
          (∑ q : Fin 8, (⟨xs1 (ix2 q ⟨256 * t.val + l.val, by omega⟩), xs2 (ix2 q ⟨256 * t.val + l.val, by omega⟩)⟩
            + taken x0 x1 q ⟨256 * t.val + l.val, by omega⟩)).fst := by
  have s2 := out2_C (F := Ideal) c i arg1 harg1 arg2 harg2 arg3 harg3 arg4 harg4 arg5 harg5 arg6 harg6 arg7 harg7 hc0 hc1 x0 x1 xs1 xs2
  have e2 := (View.read_writes_junk_eq_canon (Val := Elt Ideal) VO0_3 _).trans (congrArg (fun L => View.canon L) s2)
  unfold out0_C_3
  rw [e2, canon_rows, row2_apply,
    ← last_pair arg1 harg1 arg2 harg2 arg5 arg6 harg6 arg7 harg7 x0 x1 xs1 xs2 0 ⟨256 * t.val + l.val, by omega⟩]
  have e : (fun k => tokens arg1 harg1 x0 t (ix2 l k)) = fun k => x0 (ix2 ⟨256 * t.val + l.val, by omega⟩ k) :=
    funext fun k => tokens_apply arg1 harg1 x0 t l k
  rw [e]

end Cert.Step

end
-- ==== Proof.Result.lean ====
/- The two results of the kernel: for every token its distance to the nearest code, and how much farther the second
   nearest is. -/
module

public import proofs.«01_k».proof.Proof.State
public import proofs.«01_k».proof.Proof.LastPoint

@[expose] public section

noncomputable section

namespace Cert.Step

open Idealize.ShloMosaic Idealize.ShloMosaic.TcCoe Cert.KernelIdeal Cert.KernelIdeal.Gen Cert.Top2 Cert.Top2.Top2

variable (m : (ℓ : Loc nD τ sig) → Buf (Elt Ideal) ℓ)

theorem result1 (c : Dev nD) (t : Fin 6) (l : Fin 256) :
    Value.G2 m c (ix2 t l) = far (token m c ⟨256 * t.val + l.val, by omega⟩) (total m c ⟨256 * t.val + l.val, by omega⟩).fst := by
  have g := congrFun ((Value.G2_last m c).trans (congrArg (fun o => o.1) (Value.outsAt0_sweep m c 7 lastLt).symm)) (ix2 t l)
  have e := congrArg (fun o => o.1 (ix2 t l)) (outsAt0_C m c ⟨7, lastLt⟩ (show ¬7 % 8 = 0 by decide) rfl)
  have v := out1_value c (grid0.coords ⟨7, lastLt⟩) (ms0_0 ⟨7, lastLt⟩) (hs0_0 ⟨7, lastLt⟩) (ms0_1 ⟨7, lastLt⟩)
    (hs0_1 ⟨7, lastLt⟩) (ms0_2 ⟨7, lastLt⟩) (hs0_2 ⟨7, lastLt⟩) (ms0_3 ⟨7, lastLt⟩) (hs0_3 ⟨7, lastLt⟩) scM0_0
    (Memref.isWhole_whole _) scM0_1 (Memref.isWhole_whole _) scM0_2 (Memref.isWhole_whole _)
    (fun h => absurd ((hcond0_0 ⟨7, lastLt⟩).mp h) (show ¬7 % 8 = 0 by decide)) ((hcond0_1 ⟨7, lastLt⟩).mpr rfl)
    (iblk m c 0 ⟨7, lastLt⟩) (iblk m c 1 ⟨7, lastLt⟩) (outsAt0 m c 6 (Nat.lt_of_succ_lt lastLt)).2.2.1
    (outsAt0 m c 6 (Nat.lt_of_succ_lt lastLt)).2.2.2 t l
  have x : (fun k => iblk m c 0 ⟨7, lastLt⟩ (ix2 ⟨256 * t.val + l.val, by omega⟩ k)) = token m c ⟨256 * t.val + l.val, by omega⟩ :=
    funext fun k => iblk_tokens m c ⟨7, lastLt⟩ _ k
  have s := total_eq m c ⟨256 * t.val + l.val, by omega⟩
  unfold heldPair at s
  rw [s, x] at v
  dsimp only at g e
  exact g.trans (e.trans v)

theorem result2 (c : Dev nD) (t : Fin 6) (l : Fin 256) :
    Value.G3 m c (ix2 t l) = far (token m c ⟨256 * t.val + l.val, by omega⟩) (total m c ⟨256 * t.val + l.val, by omega⟩).snd
        - far (token m c ⟨256 * t.val + l.val, by omega⟩) (total m c ⟨256 * t.val + l.val, by omega⟩).fst := by
  have g := congrFun ((Value.G3_last m c).trans (congrArg (fun o => o.2.1) (Value.outsAt0_sweep m c 7 lastLt).symm)) (ix2 t l)
  have e := congrArg (fun o => o.2.1 (ix2 t l)) (outsAt0_C m c ⟨7, lastLt⟩ (show ¬7 % 8 = 0 by decide) rfl)
  have v := out2_value c (grid0.coords ⟨7, lastLt⟩) (ms0_0 ⟨7, lastLt⟩) (hs0_0 ⟨7, lastLt⟩) (ms0_1 ⟨7, lastLt⟩)
    (hs0_1 ⟨7, lastLt⟩) (ms0_2 ⟨7, lastLt⟩) (hs0_2 ⟨7, lastLt⟩) (ms0_3 ⟨7, lastLt⟩) (hs0_3 ⟨7, lastLt⟩) scM0_0
    (Memref.isWhole_whole _) scM0_1 (Memref.isWhole_whole _) scM0_2 (Memref.isWhole_whole _)
    (fun h => absurd ((hcond0_0 ⟨7, lastLt⟩).mp h) (show ¬7 % 8 = 0 by decide)) ((hcond0_1 ⟨7, lastLt⟩).mpr rfl)
    (iblk m c 0 ⟨7, lastLt⟩) (iblk m c 1 ⟨7, lastLt⟩) (outsAt0 m c 6 (Nat.lt_of_succ_lt lastLt)).2.2.1
    (outsAt0 m c 6 (Nat.lt_of_succ_lt lastLt)).2.2.2 t l
  have x : (fun k => iblk m c 0 ⟨7, lastLt⟩ (ix2 ⟨256 * t.val + l.val, by omega⟩ k)) = token m c ⟨256 * t.val + l.val, by omega⟩ :=
    funext fun k => iblk_tokens m c ⟨7, lastLt⟩ _ k
  have s := total_eq m c ⟨256 * t.val + l.val, by omega⟩
  unfold heldPair at s
  rw [s, x] at v
  dsimp only at g e
  exact g.trans (e.trans v)

end Cert.Step

end
-- ==== Proof.RefRun.lean ====
/- The reference's run: its one body sees both inputs whole, and its two outputs are the arrays after the run. -/
module

public import proofs.«01_k».proof.Proof.Gen.ReferenceIdeal.Frame
public import Idealize.ShloMosaic.Lib.Pipeline.Value
public import Idealize.ShloMosaic.Lib.Pipeline.ValueKit

@[expose] public section

set_option maxRecDepth 16384

noncomputable section

namespace Cert.Plain

open Idealize.ShloMosaic Idealize.ShloMosaic.TcCoe Cert.ReferenceIdeal Cert.ReferenceIdeal.Gen
open Idealize.SL Idealize.SL.Sem

variable {F : FTy → Type} [FloatOps F] (m : (ℓ : Loc nD τ sig) → Buf (Elt F) ℓ) (ρ : Dev nD → PrngReg)

/-- The tokens as the body sees them: the argument's six groups of 256 laid out in 1536 rows. -/
def tokens (c : Dev nD) : Vec F S1536x384 .fp8e4m3 :=
  shapeCast S1536x384 (m ((c : Thread nD τ).loc main_arg0)) shapeCasts_S6x256x384_S1536x384

/-- The codes. -/
def codes (c : Dev nD) : Vec F S16384x384 .fp8e4m3 := m ((c : Thread nD τ).loc main_arg1)

theorem V_main_v0 (c : Dev nD) : V m c main_v0 = tokens m c := by
  rfl

theorem iblk_tokens (c : Dev nD) (t : Fin cfg0.N) : iblk m c 0 t = tokens m c := by
  rw [← V_main_v0]
  funext y
  refine congrArg (V m c main_v0) (funext fun a => Fin.ext ?_)
  show 0 * _ + 1 * (y a).val = (y a).val
  omega

theorem iblk_codes (c : Dev nD) (t : Fin cfg0.N) : iblk m c 1 t = codes m c := by
  refine Eq.trans ?_ (V_main_arg1 m c)
  funext y
  refine congrArg (V m c main_arg1) (funext fun a => Fin.ext ?_)
  show 0 * _ + 1 * (y a).val = (y a).val
  omega

theorem final2 (c : Dev nD) : (dats m 0 c).arrAt 2 cfg0.N = out0_2 (tokens m c) (codes m c) := by
  refine (dats m 0 c).arrAt_eq_of_covers 2 _ ?_ fun t _ y => ?_
  · exact (by decide +kernel : win0_2.Covers)
  · rw [after0_2, iblk_tokens, iblk_codes]
    refine congrArg (out0_2 (tokens m c) (codes m c)) (funext fun a => Fin.ext ?_)
    show (y a).val = 0 * _ + 1 * (y a).val
    omega

theorem final3 (c : Dev nD) : (dats m 0 c).arrAt 3 cfg0.N = out0_3 (tokens m c) (codes m c) := by
  refine (dats m 0 c).arrAt_eq_of_covers 3 _ ?_ fun t _ y => ?_
  · exact (by decide +kernel : win0_3.Covers)
  · rw [after0_3, iblk_tokens, iblk_codes]
    refine congrArg (out0_3 (tokens m c) (codes m c)) (funext fun a => Fin.ext ?_)
    show (y a).val = 0 * _ + 1 * (y a).val
    omega

theorem run : θ_run defs (onTc (τ := τ) (main (F := F))) ⟨m, fun _ => 0, ρ⟩ fun r => ∀ c : Dev nD,
      r.2.mem ((c : Thread nD τ).loc main_v1_0) = out0_2 (tokens m c) (codes m c)
      ∧ r.2.mem ((c : Thread nD τ).loc main_v1_1) = out0_3 (tokens m c) (codes m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final2 m c), ((h c).1 3).trans (final3 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.Plain

end
-- ==== Proof.RefRead.lean ====
/- The reference's value at an index: the distances of a token from every code, their minimum, how many codes attain
   it, and the minimum over the others. -/
module

public import proofs.«01_k».proof.Proof.RefRun
public import proofs.«01_k».proof.Proof.Cosine
public import Idealize.ShloMosaic.Lib.Pointwise
public import Idealize.ShloMosaic.Lib.WordSum

@[expose] public section

set_option maxRecDepth 16384

noncomputable section

namespace Cert.Plain

open Idealize.ShloMosaic Cert.ReferenceIdeal Cert.ReferenceIdeal.Gen Cert.Cosine

theorem top_eq : Ideal.ofBits .f32 0x7F800000#32 = (⊤ : EReal) := by
  simp [Ideal.ofBits, Ideal.ieee]

theorem two_eq : Ideal.ofBits .f32 0x40000000#32 = two := by
  simp [Ideal.ofBits, Ideal.ieee, two]
  norm_cast
  norm_num

theorem zero_eq : Ideal.ofBits .f32 0x00000000#32 = (0 : EReal) := by
  simp [Ideal.ofBits, Ideal.ieee]

/-- A row's norm. -/
def norm (x : Fin 384 → EReal) : EReal := Ideal.sqrt (∑ k, x k * x k)

/-- The distance of a token from a code, as the reference states it. -/
def gap (x c : Fin 384 → EReal) : EReal :=
  if norm x = 0 ∨ norm c = 0 then two else two - Ideal.div (two * ∑ k, x k * c k) (norm x * norm c)

/-- For a code of nonzero norm only the token's norm is asked after. -/
theorem gap_of_code (x c : Fin 384 → EReal) (h : norm c ≠ 0) :
    gap x c = if norm x = 0 then two else two - Ideal.div (two * ∑ k, x k * c k) (norm x * norm c) := by
  simp only [gap, h, or_false]

theorem lift_eq (p : Fin 1536) (n : Fin 16384) :
    (reduces_S1536x16384_S1536.lift (ix1 p) n : S1536x16384.Idx) = ix2 p n := by
  funext a
  match a with
  | 0 => rfl
  | 1 => rfl

/-- A minimum over a row. -/
theorem min_apply (x : FVec Ideal S1536x16384 .f32) (p : Fin 1536) :
    multiReduction .minimumf [1] S1536 x 0x7F800000#32 reduces_S1536x16384_S1536 (.inl rfl) rfl (ix1 p)
      = Finset.univ.inf fun n : Fin 16384 => x (ix2 p n) := by
  have h := multiReduction_minimumf_eq_fold (F := Ideal) x 0x7F800000#32 reduces_S1536x16384_S1536 (.inl rfl) rfl (ix1 p)
  rw [h, Shape.Reduces.fold_filter_drop_single]
  have e : (x ∘ reduces_S1536x16384_S1536.lift (ix1 p)) = fun n : Fin 16384 => x (ix2 p n) :=
    funext fun n => congrArg x (lift_eq p n)
  rw [e]
  show Finset.fold min (Ideal.ofBits .f32 0x7F800000#32) _ _ = _
  rw [top_eq]
  rfl

theorem select_or {α : Type} (P Q : Prop) [Decidable P] [Decidable Q] (a b : α) :
    Scalar.select (IntOp.ori (BitVec.ofBool (decide P)) (BitVec.ofBool (decide Q))) a b = if P ∨ Q then a else b := by
  by_cases hp : P <;> by_cases hq : Q <;> simp only [hp, hq, decide_true, decide_false, or_true, true_or, or_self, if_true, if_false] <;> rfl

theorem select_dec {α : Type} (P : Prop) [Decidable P] (a b : α) :
    Scalar.select (BitVec.ofBool (decide P)) a b = if P then a else b := by
  by_cases hp : P <;> simp only [hp, decide_true, decide_false, if_true, if_false] <;> rfl

theorem two_sle (x : BitVec 32) (hx : x.toNat ≤ 16384) : (2#32).sle x = decide (2 ≤ x.toNat) := by
  rw [BitVec.sle_eq_decide, BitVec.toInt_eq_toNat_of_lt (x := x) (by omega), show (2#32).toInt = 2 from rfl]
  exact decide_eq_decide.mpr (by omega)

theorem gap_apply (X : Vec Ideal S1536x384 .fp8e4m3) (C : Vec Ideal S16384x384 .fp8e4m3) (p : Fin 1536) (n : Fin 16384) :
    k0_pay3 X C (ix2 p n) = gap (fun k => X (ix2 p k)) (fun k => C (ix2 n k)) := by
  unfold k0_pay3
  pointwise
  simp only [gap, norm, ← two_eq, ← zero_eq]
  exact select_or _ _ _ _

variable (X : Vec Ideal S1536x384 .fp8e4m3) (C : Vec Ideal S16384x384 .fp8e4m3)

/-- The distances of token `p`. -/
def gaps (p : Fin 1536) (n : Fin 16384) : EReal := gap (fun k => X (ix2 p k)) (fun k => C (ix2 n k))

/-- Its smallest distance, the codes at that distance, and the second smallest. -/
def least (p : Fin 1536) : EReal := Finset.univ.inf (gaps X C p)
def nearest (p : Fin 1536) : Finset (Fin 16384) := Finset.univ.filter fun n => gaps X C p n = least X C p
def second (p : Fin 1536) : EReal :=
  if 2 ≤ (nearest X C p).card then least X C p
  else Finset.univ.inf fun n => if gaps X C p n = least X C p then ⊤ else gaps X C p n

theorem least_apply (p : Fin 1536) : k0_pay4 X C (ix1 p) = least X C p := by
  unfold k0_pay4
  refine (min_apply (k0_pay3 X C) p).trans ?_
  exact congrArg (Finset.inf Finset.univ) (funext fun n => gap_apply X C p n)

theorem mask_apply (p : Fin 1536) (n : Fin 16384) :
    k0_pay5 X C (ix2 p n) = BitVec.ofBool (decide (gaps X C p n = least X C p)) := by
  unfold k0_pay5
  pointwise
  rw [gap_apply, ← least_apply]
  rfl

theorem count_apply (p : Fin 1536) : (k0_pay6 X C (ix1 p)).toNat = (nearest X C p).card := by
  have e : ∀ n : Fin 16384, (extui 32 (k0_pay5 X C) natLt_1_32 (ix2 p n)).toNat = if gaps X C p n = least X C p then 1 else 0 := by
    intro n
    show ((k0_pay5 X C (ix2 p n)).setWidth 32).toNat = _
    rw [mask_apply]
    by_cases h : gaps X C p n = least X C p <;> simp [h]
  have s : ∑ i ∈ Finset.univ.filter (fun i => reduces_S1536x16384_S1536.drop i = ix1 p),
      (extui 32 (k0_pay5 X C) natLt_1_32 i).toNat = (nearest X C p).card := by
    rw [Shape.Reduces.sum_filter_drop_single, nearest, Finset.card_filter]
    refine Finset.sum_congr rfl fun n _ => ?_
    exact (congrArg (fun i => (extui 32 (k0_pay5 X C) natLt_1_32 i).toNat) (lift_eq p n)).trans (e n)
  have hc : (nearest X C p).card ≤ 16384 := (Finset.card_le_univ _).trans (by simp)
  unfold k0_pay6
  refine (WordSum.toNat_multiReductionI_add _ reduces_S1536x16384_S1536 rfl (ix1 p) ?_).trans s
  rw [s]
  omega

theorem rest_apply (p : Fin 1536) :
    k0_pay7 X C (ix1 p) = Finset.univ.inf fun n => if gaps X C p n = least X C p then ⊤ else gaps X C p n := by
  unfold k0_pay7
  refine (min_apply _ p).trans ?_
  refine congrArg (Finset.inf Finset.univ) (funext fun n => ?_)
  show Scalar.select (k0_pay5 X C (ix2 p n)) (Ideal.ofBits .f32 0x7F800000#32) (k0_pay3 X C (ix2 p n)) = _
  rw [mask_apply, gap_apply, top_eq]
  exact select_dec _ _ _

theorem second_apply (p : Fin 1536) :
    Scalar.select (IntOp.cmpi .sge (k0_pay6 X C (ix1 p)) 2#32) (k0_pay4 X C (ix1 p)) (k0_pay7 X C (ix1 p)) = second X C p := by
  have hc : (nearest X C p).card ≤ 16384 := (Finset.card_le_univ _).trans (by simp)
  have h := count_apply X C p
  have e : IntOp.cmpi .sge (k0_pay6 X C (ix1 p)) 2#32 = BitVec.ofBool (decide (2 ≤ (nearest X C p).card)) := by
    rw [← h]
    exact congrArg BitVec.ofBool (two_sle _ (h ▸ hc))
  rw [e, least_apply, rest_apply]
  exact select_dec _ _ _

/-- The tokens' values back in six rows of 256. -/
theorem flat_apply (v : FVec Ideal S1536 .f32) (t : Fin 6) (l : Fin 256) :
    shapeCast S6x256 v shapeCasts_S1536_S6x256 (ix2 t l) = v (ix1 ⟨256 * t.val + l.val, by omega⟩) := by
  pointwise
  exact congrArg (fun i => v (ix1 i)) (Fin.ext (show t.val * 256 + l.val = 256 * t.val + l.val by omega))

theorem zeros : ∀ a : Fin 2, (![0, 0] : Fin 2 → ℕ) a = 0 := Fin.forall_fin_two.mpr ⟨rfl, rfl⟩

/-- One store of the whole array leaves what it stores. -/
theorem canon_all (w : Vec Ideal S6x256 .f32) : View.canon [(⟨r0_2, w⟩ : View.Piece (Elt Ideal) S6x256 .f32)] = w :=
  View.canon_cons_unit_lit _ w [] zeros

theorem load_tokens : View.ld X r0_0 = X := View.ld_unit_lit _ X zeros

theorem load_codes : View.ld C r0_1 = C := View.ld_unit_lit _ C zeros

theorem out2_apply (t : Fin 6) (l : Fin 256) :
    out0_2 X C (ix2 t l) = least X C ⟨256 * t.val + l.val, by omega⟩ := by
  rw [← least_apply]
  unfold out0_2 k0_pay9
  have e := canon_all (k0_pay1 (k0_pay4 (View.ld X r0_0) (View.ld C r0_1)))
  refine (congrFun e (ix2 t l)).trans ?_
  rw [load_tokens, load_codes]
  unfold k0_pay1
  have h := flat_apply (k0_pay4 X C) t l
  exact h

/-- The second output's payload, of any minimum, count and second minimum. -/
theorem pay2_apply (v33 : FVec Ideal S1536 .f32) (v38 : IVec S1536 32) (v41 : FVec Ideal S1536 .f32) (t : Fin 6) (l : Fin 256) :
    k0_pay2 v33 v38 v41 k0_pay8 (ix2 t l)
      = (Ideal.ofBits .f32 0x00000000#32 - v33 (ix1 ⟨256 * t.val + l.val, by omega⟩))
        - (Ideal.ofBits .f32 0x00000000#32
          - Scalar.select (IntOp.cmpi .sge (v38 (ix1 ⟨256 * t.val + l.val, by omega⟩)) 2#32)
              (v33 (ix1 ⟨256 * t.val + l.val, by omega⟩)) (v41 (ix1 ⟨256 * t.val + l.val, by omega⟩))) := by
  unfold k0_pay2
  rw [flat_apply]
  rfl

theorem out3_apply (t : Fin 6) (l : Fin 256) :
    out0_3 X C (ix2 t l)
      = (0 - least X C ⟨256 * t.val + l.val, by omega⟩) - (0 - second X C ⟨256 * t.val + l.val, by omega⟩) := by
  unfold out0_3 k0_pay9
  have e := canon_all (k0_pay2 (k0_pay4 (View.ld X r0_0) (View.ld C r0_1)) (k0_pay6 (View.ld X r0_0) (View.ld C r0_1))
    (k0_pay7 (View.ld X r0_0) (View.ld C r0_1)) k0_pay8)
  refine (congrFun e (ix2 t l)).trans ?_
  rw [load_tokens, load_codes, pay2_apply, second_apply, least_apply, zero_eq]

end Cert.Plain

end
-- ==== Proof.Equation.lean ====
/- The equation behind the claim: a token's smallest distance is the distance at its greatest score, and its second
   smallest the distance at its second greatest, so the kernel's two results are the reference's. -/
module

public import proofs.«01_k».proof.Proof.Result
public import proofs.«01_k».proof.Proof.RefRead

@[expose] public section

noncomputable section

namespace Cert.Equation

open Idealize.ShloMosaic Cert.Top2 Cert.Top2.Top2 Cert.Cosine Cert.Step Cert.Plain

/-- The pair of all scores of a token. -/
def best (x : Fin 384 → EReal) (c : Fin 16384 → Fin 384 → EReal) : Top2 := ∑ n, single (score x (c n))

theorem norm_antitone (x : Fin 384 → EReal) (h : Step.norm x ≠ 0) : Antitone (dist (Step.norm x)) :=
  dist_antitone (sqrt_nonneg (sumsq_nonneg x)) h

/-- The reference's distance is the kernel's at the code's score, -/
theorem gap_eq (x c : Fin 384 → EReal) (h : Step.norm x ≠ 0) : gap x c = dist (Step.norm x) (score x c) :=
  dist_pair x c h

/-- and 2 for a token of norm zero. -/
theorem gap_zero (x c : Fin 384 → EReal) (h : Step.norm x = 0) : gap x c = two := if_pos (Or.inl h)

theorem least_eq (x : Fin 384 → EReal) (c : Fin 16384 → Fin 384 → EReal) :
    (Finset.univ.inf fun n => gap x (c n)) = far x (best x c).fst := by
  unfold far
  by_cases h : Step.norm x = 0
  · rw [if_pos h, Finset.inf_congr rfl fun n _ => gap_zero x (c n) h]
    exact Finset.inf_const Finset.univ_nonempty two
  · rw [if_neg h, Finset.inf_congr rfl fun n _ => gap_eq x (c n) h, best, sum_fst]
    exact inf_antitone Finset.univ Finset.univ_nonempty (fun n => score x (c n)) _ (norm_antitone x h)

theorem second_eq (x : Fin 384 → EReal) (c : Fin 16384 → Fin 384 → EReal) :
    (if 2 ≤ (Finset.univ.filter fun n => gap x (c n) = far x (best x c).fst).card then far x (best x c).fst
      else Finset.univ.inf fun n => if gap x (c n) = far x (best x c).fst then ⊤ else gap x (c n))
      = far x (best x c).snd := by
  have hc : 2 ≤ (Finset.univ : Finset (Fin 16384)).card := by
    rw [Finset.card_univ, Fintype.card_fin]
    omega
  unfold far
  by_cases h : Step.norm x = 0
  · have e : (Finset.univ.filter fun n => gap x (c n) = two) = Finset.univ :=
      Finset.filter_true_of_mem fun n _ => gap_zero x (c n) h
    simp only [if_pos h]
    rw [e, if_pos hc]
  · simp only [if_neg h]
    have e : (fun n => gap x (c n)) = fun n => dist (Step.norm x) (score x (c n)) := funext fun n => gap_eq x (c n) h
    have s := second_antitone Finset.univ hc (fun n => score x (c n)) _ (norm_antitone x h)
    simp only [gap_eq x _ h]
    exact s

/-- The two negations of the second result cancel. -/
theorem gap_order (a b : EReal) : (0 - a) - (0 - b) = b - a := by
  rw [zero_sub, zero_sub, sub_eq_add_neg, neg_neg, sub_eq_add_neg, add_comm]

section

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (h0 : m' ((c.tc : Thread ReferenceIdeal.nD ReferenceIdeal.τ).loc ReferenceIdeal.main_arg0)
    = m ((c.tc : Thread KernelIdeal.nD KernelIdeal.τ).loc KernelIdeal.main_arg0))
  (h1 : m' ((c.tc : Thread ReferenceIdeal.nD ReferenceIdeal.τ).loc ReferenceIdeal.main_arg1)
    = m ((c.tc : Thread KernelIdeal.nD KernelIdeal.τ).loc KernelIdeal.main_arg1))

include h0 in
theorem token_eq (p : Fin 1536) : (fun k => Plain.tokens m' c (ix2 p k)) = token m c p := by
  funext k
  unfold Plain.tokens token
  rw [h0, Step.V_main_v0]

include h1 in
theorem code_eq (n : Fin 16384) : (fun k => Plain.codes m' c (ix2 n k)) = code m c n := by
  funext k
  unfold Plain.codes code
  rw [h1]

include h0 h1 in
theorem gaps_eq (p : Fin 1536) (n : Fin 16384) :
    gaps (Plain.tokens m' c) (Plain.codes m' c) p n = gap (token m c p) (code m c n) := by
  unfold gaps
  rw [token_eq m m' c h0 p, code_eq m m' c h1 n]

include h0 h1 in
theorem least_total (p : Fin 1536) :
    least (Plain.tokens m' c) (Plain.codes m' c) p = far (token m c p) (total m c p).fst := by
  refine Eq.trans ?_ (least_eq (token m c p) (code m c))
  exact Finset.inf_congr rfl fun n _ => gaps_eq m m' c h0 h1 p n

include h0 h1 in
theorem second_total (p : Fin 1536) :
    second (Plain.tokens m' c) (Plain.codes m' c) p = far (token m c p) (total m c p).snd := by
  refine Eq.trans ?_ (second_eq (token m c p) (code m c))
  unfold second nearest
  have e : gaps (Plain.tokens m' c) (Plain.codes m' c) p = fun n => gap (token m c p) (code m c n) :=
    funext fun n => gaps_eq m m' c h0 h1 p n
  rw [least_total m m' c h0 h1 p, e]
  rfl

include h0 h1 in
theorem result1_eq : ReferenceIdeal.Gen.out0_2 (Plain.tokens m' c) (Plain.codes m' c) = KernelIdeal.Value.G2 m c := by
  funext y
  have hy : y = ix2 (y 0) (y 1) := eq_ix2 y
  rw [hy]
  have e := out2_apply (Plain.tokens m' c) (Plain.codes m' c) (y 0) (y 1)
  have g := result1 m c (y 0) (y 1)
  exact e.trans ((least_total m m' c h0 h1 _).trans g.symm)

include h0 h1 in
theorem result2_eq : ReferenceIdeal.Gen.out0_3 (Plain.tokens m' c) (Plain.codes m' c) = KernelIdeal.Value.G3 m c := by
  funext y
  have hy : y = ix2 (y 0) (y 1) := eq_ix2 y
  rw [hy]
  have e := out3_apply (Plain.tokens m' c) (Plain.codes m' c) (y 0) (y 1)
  have g := result2 m c (y 0) (y 1)
  rw [gap_order, least_total m m' c h0 h1, second_total m m' c h0 h1] at e
  exact e.trans g.symm

end

end Cert.Equation

end
-- ==== Proof.lean ====
/- The claim, put together: the three programs run to their ends with their arguments unchanged, and over the extended
   reals the kernel's two results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem

/-- The kernel's two results are the reference's. -/
theorem algebraic :
    algebraic_KernelIdeal_ReferenceIdeal (hKernelIdeal := KernelIdeal.Gen.facts) (hReferenceIdeal := ReferenceIdeal.Gen.facts) :=
  fun m g m' g' _ h =>
    ⟨KernelIdeal.Value.G2 m, KernelIdeal.Value.G3 m, KernelIdeal.Value.run m g,
      (θ_run ReferenceIdeal.defs _ _).mono
        (fun _ r c => ⟨(r c).1.trans (Equation.result1_eq m m' c (h c).1 (h c).2),
          (r c).2.1.trans (Equation.result2_eq m m' c (h c).1 (h c).2), (r c).2.2⟩)
        (Plain.run m' g')⟩

theorem claim : Cert.Claim :=
  ⟨Kernel.Gen.facts, KernelIdeal.Gen.facts, ReferenceIdeal.Gen.facts, fun m ρ _ => Kernel.Gen.frame m ρ,
    fun m ρ _ => KernelIdeal.Gen.frame m ρ, fun m ρ _ => ReferenceIdeal.Gen.frame m ρ, trivial, algebraic⟩

end Cert.Proof

end
